-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
-- ==== Pre_logits_finite.lean ====
abbrev S8x384x32x32 : Shape := ⟨4, ![8, 384, 32, 32]⟩
abbrev S384x384 : Shape := ⟨2, ![384, 384]⟩
abbrev S384 : Shape := ⟨1, ![384]⟩
abbrev S64x384 : Shape := ⟨2, ![64, 384]⟩
abbrev S64 : Shape := ⟨1, ![64]⟩
abbrev S32x384 : Shape := ⟨2, ![32, 384]⟩
abbrev S32 : Shape := ⟨1, ![32]⟩
abbrev S_ : Shape := ⟨0, ![]⟩

class Facts : Prop where
  bcast_S_S8x384x32x32 : S_.BroadcastsInDim S8x384x32x32 (![] : Fin 0 → Fin S8x384x32x32.rank)
  bcast_S_S32x384 : S_.BroadcastsInDim S32x384 (![] : Fin 0 → Fin S32x384.rank)
  bcast_S_S32 : S_.BroadcastsInDim S32 (![] : Fin 0 → Fin S32.rank)

variable [Facts]

def fn {F : FTy → Type} [FloatOps F] (main_arg0 : FVec F S8x384x32x32 .f32) (main_arg1 : FVec F S8x384x32x32 .f32) (main_arg2 : FVec F S384x384 .f32) (main_arg3 : FVec F S384 .f32) (main_arg4 : FVec F S64x384 .f32) (main_arg5 : FVec F S64 .f32) (main_arg6 : FVec F S32x384 .f32) (main_arg7 : FVec F S32 .f32) (main_arg8 : FVec F S384x384 .f32) (main_arg9 : FVec F S384 .f32) : IVec S8x384x32x32 1 × IVec S32x384 1 × IVec S32 1 :=
  let main_v0 : FVec F S8x384x32x32 .f32 := Host.absf main_arg0
  let main_cst : FVec F S_ .f32 := constant S_ .f32 0x7F800000#32
  let main_v1 : FVec F S8x384x32x32 .f32 := broadcastInDim S8x384x32x32 ![] bcast_S_S8x384x32x32 main_cst
  let main_v2 : IVec S8x384x32x32 1 := cmpf .olt main_v0 main_v1
  let main_v3 : FVec F S32x384 .f32 := Host.absf main_arg6
  let main_cst_0 : FVec F S_ .f32 := constant S_ .f32 0x7F800000#32
  let main_v4 : FVec F S32x384 .f32 := broadcastInDim S32x384 ![] bcast_S_S32x384 main_cst_0
  let main_v5 : IVec S32x384 1 := cmpf .olt main_v3 main_v4
  let main_v6 : FVec F S32 .f32 := Host.absf main_arg7
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  (main_v2, main_v5, main_v8)
-- ==== Kernel.lean ====
abbrev S8x384x32x32 : Shape := ⟨4, ![8, 384, 32, 32]⟩
abbrev S384x384 : Shape := ⟨2, ![384, 384]⟩
abbrev S384 : Shape := ⟨1, ![384]⟩
abbrev S64x384 : Shape := ⟨2, ![64, 384]⟩
abbrev S64 : Shape := ⟨1, ![64]⟩
abbrev S32x384 : Shape := ⟨2, ![32, 384]⟩
abbrev S32 : Shape := ⟨1, ![32]⟩
abbrev S32x96x2 : Shape := ⟨3, ![32, 96, 2]⟩
abbrev S1024x2 : Shape := ⟨2, ![1024, 2]⟩
abbrev S8x384x1024 : Shape := ⟨3, ![8, 384, 1024]⟩
abbrev S8x1024x384 : Shape := ⟨3, ![8, 1024, 384]⟩
abbrev S1x32x96x2 : Shape := ⟨4, ![1, 32, 96, 2]⟩
abbrev S32x32x96x2 : Shape := ⟨4, ![32, 32, 96, 2]⟩
abbrev S32x1x96x2 : Shape := ⟨4, ![32, 1, 96, 2]⟩
abbrev S32x32x96x4 : Shape := ⟨4, ![32, 32, 96, 4]⟩
abbrev S1024x384 : Shape := ⟨2, ![1024, 384]⟩
abbrev S1x384 : Shape := ⟨2, ![1, 384]⟩
abbrev S384x64 : Shape := ⟨2, ![384, 64]⟩
abbrev S1x64 : Shape := ⟨2, ![1, 64]⟩
abbrev S384x32 : Shape := ⟨2, ![384, 32]⟩
abbrev S1x32 : Shape := ⟨2, ![1, 32]⟩
abbrev S1x1024x384 : Shape := ⟨3, ![1, 1024, 384]⟩
abbrev S1024x1024 : Shape := ⟨2, ![1024, 1024]⟩
abbrev S1024x64 : Shape := ⟨2, ![1024, 64]⟩
abbrev S1024x32 : Shape := ⟨2, ![1024, 32]⟩
abbrev S1024x1 : Shape := ⟨2, ![1024, 1]⟩
abbrev S1024x4 : Shape := ⟨2, ![1024, 4]⟩
abbrev S1024 : Shape := ⟨1, ![1024]⟩
abbrev S1024x48 : Shape := ⟨2, ![1024, 48]⟩
abbrev S1024x32x1 : Shape := ⟨3, ![1024, 32, 1]⟩
abbrev S1024x32x32 : Shape := ⟨3, ![1024, 32, 32]⟩
abbrev S48x384 : Shape := ⟨2, ![48, 384]⟩

abbrev nBuf : Space → Nat
  | .hbm => 33
  | .vmem => 17
  | .smem => 0
  | _ => 0

abbrev bufTy : (tb : Table) → Fin (tcTables nBuf tb) → BufTy
  | .hbm, ⟨0, _⟩ => ⟨S8x384x32x32, .f32⟩
  | .hbm, ⟨1, _⟩ => ⟨S8x384x32x32, .f32⟩
  | .hbm, ⟨2, _⟩ => ⟨S384x384, .f32⟩
  | .hbm, ⟨3, _⟩ => ⟨S384, .f32⟩
  | .hbm, ⟨4, _⟩ => ⟨S64x384, .f32⟩
  | .hbm, ⟨5, _⟩ => ⟨S64, .f32⟩
  | .hbm, ⟨6, _⟩ => ⟨S32x384, .f32⟩
  | .hbm, ⟨7, _⟩ => ⟨S32, .f32⟩
  | .hbm, ⟨8, _⟩ => ⟨S384x384, .f32⟩
  | .hbm, ⟨9, _⟩ => ⟨S384, .f32⟩
  | .hbm, ⟨10, _⟩ => ⟨S32x96x2, .f32⟩
  | .hbm, ⟨11, _⟩ => ⟨S1024x2, .f32⟩
  | .hbm, ⟨12, _⟩ => ⟨S8x384x1024, .f32⟩
  | .hbm, ⟨13, _⟩ => ⟨S8x1024x384, .f32⟩
  | .hbm, ⟨14, _⟩ => ⟨S8x384x1024, .f32⟩
  | .hbm, ⟨15, _⟩ => ⟨S8x1024x384, .f32⟩
  | .hbm, ⟨16, _⟩ => ⟨S1x32x96x2, .f32⟩
  | .hbm, ⟨17, _⟩ => ⟨S32x32x96x2, .f32⟩
  | .hbm, ⟨18, _⟩ => ⟨S32x1x96x2, .f32⟩
  | .hbm, ⟨19, _⟩ => ⟨S32x32x96x2, .f32⟩
  | .hbm, ⟨20, _⟩ => ⟨S32x32x96x4, .f32⟩
  | .hbm, ⟨21, _⟩ => ⟨S1024x384, .f32⟩
  | .hbm, ⟨22, _⟩ => ⟨S384x384, .f32⟩
  | .hbm, ⟨23, _⟩ => ⟨S1x384, .f32⟩
  | .hbm, ⟨24, _⟩ => ⟨S384x64, .f32⟩
  | .hbm, ⟨25, _⟩ => ⟨S1x64, .f32⟩
  | .hbm, ⟨26, _⟩ => ⟨S384x32, .f32⟩
  | .hbm, ⟨27, _⟩ => ⟨S1x32, .f32⟩
  | .hbm, ⟨28, _⟩ => ⟨S384x384, .f32⟩
  | .hbm, ⟨29, _⟩ => ⟨S1x384, .f32⟩
  | .hbm, ⟨30, _⟩ => ⟨S8x1024x384, .f32⟩
  | .hbm, ⟨31, _⟩ => ⟨S8x384x1024, .f32⟩
  | .hbm, ⟨32, _⟩ => ⟨S8x384x32x32, .f32⟩
  | .local _ .vmem, ⟨0, _⟩ => ⟨S1x1024x384, .f32⟩
  | .local _ .vmem, ⟨1, _⟩ => ⟨S1x1024x384, .f32⟩
  | .local _ .vmem, ⟨2, _⟩ => ⟨S1x1024x384, .f32⟩
  | .local _ .vmem, ⟨3, _⟩ => ⟨S1x1024x384, .f32⟩
  | .local _ .vmem, ⟨4, _⟩ => ⟨S1024x384, .f32⟩
  | .local _ .vmem, ⟨5, _⟩ => ⟨S1024x2, .f32⟩
  | .local _ .vmem, ⟨6, _⟩ => ⟨S384x384, .f32⟩
  | .local _ .vmem, ⟨7, _⟩ => ⟨S1x384, .f32⟩
  | .local _ .vmem, ⟨8, _⟩ => ⟨S384x64, .f32⟩
  | .local _ .vmem, ⟨9, _⟩ => ⟨S1x64, .f32⟩
  | .local _ .vmem, ⟨10, _⟩ => ⟨S384x32, .f32⟩
  | .local _ .vmem, ⟨11, _⟩ => ⟨S1x32, .f32⟩
  | .local _ .vmem, ⟨12, _⟩ => ⟨S384x384, .f32⟩
  | .local _ .vmem, ⟨13, _⟩ => ⟨S1x384, .f32⟩
  | .local _ .vmem, ⟨14, _⟩ => ⟨S1x1024x384, .f32⟩
  | .local _ .vmem, ⟨15, _⟩ => ⟨S1x1024x384, .f32⟩
  | .local _ .vmem, ⟨16, _⟩ => ⟨S1024x1024, .bf16⟩
  | _, _ => ⟨S8x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x384x32x32 : Shape := ⟨4, ![8, 384, 32, 32]⟩
abbrev S384x384 : Shape := ⟨2, ![384, 384]⟩
abbrev S384 : Shape := ⟨1, ![384]⟩
abbrev S64x384 : Shape := ⟨2, ![64, 384]⟩
abbrev S64 : Shape := ⟨1, ![64]⟩
abbrev S32x384 : Shape := ⟨2, ![32, 384]⟩
abbrev S32 : Shape := ⟨1, ![32]⟩
abbrev S32x96x2 : Shape := ⟨3, ![32, 96, 2]⟩
abbrev S1024x2 : Shape := ⟨2, ![1024, 2]⟩
abbrev S1x2 : Shape := ⟨2, ![1, 2]⟩
abbrev S8x384x1024 : Shape := ⟨3, ![8, 384, 1024]⟩
abbrev S8x1024x384 : Shape := ⟨3, ![8, 1024, 384]⟩
abbrev S1x32x96x2 : Shape := ⟨4, ![1, 32, 96, 2]⟩
abbrev S32x32x96x2 : Shape := ⟨4, ![32, 32, 96, 2]⟩
abbrev S32x1x96x2 : Shape := ⟨4, ![32, 1, 96, 2]⟩
abbrev S32x32x96x4 : Shape := ⟨4, ![32, 32, 96, 4]⟩
abbrev S1024x384 : Shape := ⟨2, ![1024, 384]⟩
abbrev S1x1024x384 : Shape := ⟨3, ![1, 1024, 384]⟩
abbrev S1x1x384 : Shape := ⟨3, ![1, 1, 384]⟩
abbrev S8x1024x8x48 : Shape := ⟨4, ![8, 1024, 8, 48]⟩
abbrev S384x64 : Shape := ⟨2, ![384, 64]⟩
abbrev S8x1024x64 : Shape := ⟨3, ![8, 1024, 64]⟩
abbrev S1x1x64 : Shape := ⟨3, ![1, 1, 64]⟩
abbrev S8x1024x8x1x4x2 : Shape := ⟨6, ![8, 1024, 8, 1, 4, 2]⟩
abbrev S384x32 : Shape := ⟨2, ![384, 32]⟩
abbrev S8x1024x32 : Shape := ⟨3, ![8, 1024, 32]⟩
abbrev S1x1x32 : Shape := ⟨3, ![1, 1, 32]⟩
abbrev S8x1024x8x4 : Shape := ⟨4, ![8, 1024, 8, 4]⟩
abbrev S_ : Shape := ⟨0, ![]⟩
abbrev S8x1024x8 : Shape := ⟨3, ![8, 1024, 8]⟩
abbrev S8x1024x8x1 : Shape := ⟨4, ![8, 1024, 8, 1]⟩
abbrev S1x1024x1x2 : Shape := ⟨4, ![1, 1024, 1, 2]⟩
abbrev S1x1024x1x1x1x2 : Shape := ⟨6, ![1, 1024, 1, 1, 1, 2]⟩
abbrev S1x1x1x1x1x2 : Shape := ⟨6, ![1, 1, 1, 1, 1, 2]⟩
abbrev S64x48x32x32 : Shape := ⟨4, ![64, 48, 32, 32]⟩
abbrev S8x1024x8x4x2 : Shape := ⟨5, ![8, 1024, 8, 4, 2]⟩
abbrev S8x8x1024x4x2 : Shape := ⟨5, ![8, 8, 1024, 4, 2]⟩
abbrev S64x1024x4x2 : Shape := ⟨4, ![64, 1024, 4, 2]⟩
abbrev S64x1024x4x1 : Shape := ⟨4, ![64, 1024, 4, 1]⟩
abbrev S64x1024x4 : Shape := ⟨3, ![64, 1024, 4]⟩
abbrev S64x48x1024 : Shape := ⟨3, ![64, 48, 1024]⟩
abbrev S64x4096 : Shape := ⟨2, ![64, 4096]⟩
abbrev S64x1x4096 : Shape := ⟨3, ![64, 1, 4096]⟩
abbrev S64x4096x1 : Shape := ⟨3, ![64, 4096, 1]⟩
abbrev S1 : Shape := ⟨1, ![1]⟩
abbrev S1x1x1 : Shape := ⟨3, ![1, 1, 1]⟩
abbrev S64x48x4096 : Shape := ⟨3, ![64, 48, 4096]⟩
abbrev S64x48x1024x4 : Shape := ⟨4, ![64, 48, 1024, 4]⟩
abbrev S64x1x1024x4 : Shape := ⟨4, ![64, 1, 1024, 4]⟩
abbrev S8x8x1024x4 : Shape := ⟨4, ![8, 8, 1024, 4]⟩

abbrev nBuf : Space → Nat
  | .hbm => 427
  | .vmem => 0
  | .smem => 0
  | _ => 0

abbrev hbmTy0_0 (i : Nat) : BufTy := match i % 128 with
  | 0 => ⟨S8x384x32x32, .f32⟩
  | 1 => ⟨S8x384x32x32, .f32⟩
  | 2 => ⟨S384x384, .f32⟩
  | 3 => ⟨S384, .f32⟩
  | 4 => ⟨S64x384, .f32⟩
  | 5 => ⟨S64, .f32⟩
  | 6 => ⟨S32x384, .f32⟩
  | 7 => ⟨S32, .f32⟩
  | 8 => ⟨S384x384, .f32⟩
  | 9 => ⟨S384, .f32⟩
  | 10 => ⟨S32x96x2, .f32⟩
  | 11 => ⟨S32x96x2, .f32⟩
  | 12 => ⟨S1024x2, .f32⟩
  | 13 => ⟨S1x2, .f32⟩
  | 14 => ⟨S8x384x1024, .f32⟩
  | 15 => ⟨S8x1024x384, .f32⟩
  | 16 => ⟨S1x32x96x2, .f32⟩
  | 17 => ⟨S32x32x96x2, .f32⟩
  | 18 => ⟨S32x1x96x2, .f32⟩
  | 19 => ⟨S32x32x96x2, .f32⟩
  | 20 => ⟨S32x32x96x4, .f32⟩
  | 21 => ⟨S1024x384, .f32⟩
  | 22 => ⟨S1x1024x384, .f32⟩
  | 23 => ⟨S8x1024x384, .f32⟩
  | 24 => ⟨S8x1024x384, .f32⟩
  | 25 => ⟨S8x384x1024, .f32⟩
  | 26 => ⟨S8x1024x384, .f32⟩
  | 27 => ⟨S384x384, .f32⟩
  | 28 => ⟨S8x1024x384, .f32⟩
  | 29 => ⟨S1x1x384, .f32⟩
  | 30 => ⟨S8x1024x384, .f32⟩
  | 31 => ⟨S8x1024x384, .f32⟩
  | 32 => ⟨S8x1024x8x48, .f32⟩
  | 33 => ⟨S384x64, .f32⟩
  | 34 => ⟨S8x1024x64, .f32⟩
  | 35 => ⟨S1x1x64, .f32⟩
  | 36 => ⟨S8x1024x64, .f32⟩
  | 37 => ⟨S8x1024x64, .f32⟩
  | 38 => ⟨S8x1024x8x1x4x2, .f32⟩
  | 39 => ⟨S384x32, .f32⟩
  | 40 => ⟨S8x1024x32, .f32⟩
  | 41 => ⟨S1x1x32, .f32⟩
  | 42 => ⟨S8x1024x32, .f32⟩
  | 43 => ⟨S8x1024x32, .f32⟩
  | 44 => ⟨S8x1024x8x4, .f32⟩
  | 45 => ⟨S_, .f32⟩
  | 46 => ⟨S8x1024x8, .f32⟩
  | 47 => ⟨S_, .f32⟩
  | 48 => ⟨S8x1024x8, .f32⟩
  | 49 => ⟨S8x1024x8, .f32⟩
  | 50 => ⟨S8x1024x8x1, .f32⟩
  | 51 => ⟨S8x1024x8x4, .f32⟩
  | 52 => ⟨S8x1024x8x4, .f32⟩
  | 53 => ⟨S8x1024x8x4, .f32⟩
  | 54 => ⟨S_, .f32⟩
  | 55 => ⟨S8x1024x8, .f32⟩
  | 56 => ⟨S8x1024x8x1, .f32⟩
  | 57 => ⟨S8x1024x8x4, .f32⟩
  | 58 => ⟨S8x1024x8x4, .f32⟩
  | 59 => ⟨S1x1024x1x2, .f32⟩
  | 60 => ⟨S1x1024x1x1x1x2, .f32⟩
  | 61 => ⟨S1x1x1x1x1x2, .f32⟩
  | 62 => ⟨S8x1024x8x1x4x2, .f32⟩
  | 63 => ⟨S8x1024x8x1x4x2, .f32⟩
  | 64 => ⟨S8x1024x8x1x4x2, .f32⟩
  | 65 => ⟨S8x1024x8x1x4x2, .f32⟩
  | 66 => ⟨S_, .f32⟩
  | 67 => ⟨S8x1024x8x1x4x2, .f32⟩
  | 68 => ⟨S8x1024x8x1x4x2, .f32⟩
  | 69 => ⟨S_, .f32⟩
  | 70 => ⟨S8x1024x8x1x4x2, .f32⟩
  | 71 => ⟨S8x1024x8x1x4x2, .f32⟩
  | 72 => ⟨S8x1024x384, .f32⟩
  | 73 => ⟨S8x384x1024, .f32⟩
  | 74 => ⟨S64x48x32x32, .f32⟩
  | 75 => ⟨S8x1024x8x4x2, .f32⟩
  | 76 => ⟨S8x8x1024x4x2, .f32⟩
  | 77 => ⟨S64x1024x4x2, .f32⟩
  | 78 => ⟨S64x1024x4x1, .f32⟩
  | 79 => ⟨S64x1024x4, .f32⟩
  | 80 => ⟨S_, .f32⟩
  | 81 => ⟨S64x1024x4, .f32⟩
  | 82 => ⟨S64x1024x4, .f32⟩
  | 83 => ⟨S_, .f32⟩
  | 84 => ⟨S64x1024x4, .f32⟩
  | 85 => ⟨S64x1024x4, .f32⟩
  | 86 => ⟨S_, .f32⟩
  | 87 => ⟨S64x1024x4, .f32⟩
  | 88 => ⟨S64x1024x4, .f32⟩
  | 89 => ⟨S_, .f32⟩
  | 90 => ⟨S64x1024x4, .f32⟩
  | 91 => ⟨S64x1024x4, .f32⟩
  | 92 => ⟨S64x1024x4x1, .f32⟩
  | 93 => ⟨S64x1024x4, .f32⟩
  | 94 => ⟨S_, .f32⟩
  | 95 => ⟨S64x1024x4, .f32⟩
  | 96 => ⟨S64x1024x4, .f32⟩
  | 97 => ⟨S_, .f32⟩
  | 98 => ⟨S64x1024x4, .f32⟩
  | 99 => ⟨S64x1024x4, .f32⟩
  | 100 => ⟨S_, .f32⟩
  | 101 => ⟨S64x1024x4, .f32⟩
  | 102 => ⟨S64x1024x4, .f32⟩
  | 103 => ⟨S_, .f32⟩
  | 104 => ⟨S64x1024x4, .f32⟩
  | 105 => ⟨S64x1024x4, .f32⟩
  | 106 => ⟨S64x1024x4, .f32⟩
  | 107 => ⟨S_, .f32⟩
  | 108 => ⟨S64x1024x4, .f32⟩
  | 109 => ⟨S64x1024x4, .f32⟩
  | 110 => ⟨S64x1024x4, .f32⟩
  | 111 => ⟨S_, .f32⟩
  | 112 => ⟨S64x1024x4, .f32⟩
  | 113 => ⟨S64x1024x4, .f32⟩
  | 114 => ⟨S64x1024x4, .f32⟩
  | 115 => ⟨S_, .f32⟩
  | 116 => ⟨S64x1024x4, .f32⟩
  | 117 => ⟨S64x1024x4, .f32⟩
  | 118 => ⟨S64x1024x4, .f32⟩
  | 119 => ⟨S_, .f32⟩
  | 120 => ⟨S64x1024x4, .f32⟩
  | 121 => ⟨S64x1024x4, .f32⟩
  | 122 => ⟨S64x48x1024, .f32⟩
  | 123 => ⟨S_, .f32⟩
  | 124 => ⟨S64x1024x4, .f32⟩
  | 125 => ⟨S64x1024x4, .i1⟩
  | 126 => ⟨S_, .f32⟩
  | 127 => ⟨S64x1024x4, .f32⟩
  | _ => ⟨S8x384x32x32, .f32⟩

abbrev hbmTy0_1 (i : Nat) : BufTy := match i % 128 with
  | 0 => ⟨S64x1024x4, .i1⟩
  | 1 => ⟨S64x1024x4, .i1⟩
  | 2 => ⟨S_, .f32⟩
  | 3 => ⟨S64x1024x4, .f32⟩
  | 4 => ⟨S64x1024x4, .i1⟩
  | 5 => ⟨S64x1024x4, .i1⟩
  | 6 => ⟨S_, .f32⟩
  | 7 => ⟨S64x1024x4, .f32⟩
  | 8 => ⟨S64x1024x4, .i1⟩
  | 9 => ⟨S64x1024x4, .i1⟩
  | 10 => ⟨S_, .i32⟩
  | 11 => ⟨S_, .i32⟩
  | 12 => ⟨S_, .f32⟩
  | 13 => ⟨S64x1024x4, .f32⟩
  | 14 => ⟨S64x1024x4, .f32⟩
  | 15 => ⟨S_, .f32⟩
  | 16 => ⟨S64x1024x4, .f32⟩
  | 17 => ⟨S64x1024x4, .f32⟩
  | 18 => ⟨S64x1024x4, .i32⟩
  | 19 => ⟨S_, .i32⟩
  | 20 => ⟨S_, .i32⟩
  | 21 => ⟨S_, .f32⟩
  | 22 => ⟨S64x1024x4, .f32⟩
  | 23 => ⟨S64x1024x4, .f32⟩
  | 24 => ⟨S_, .f32⟩
  | 25 => ⟨S64x1024x4, .f32⟩
  | 26 => ⟨S64x1024x4, .f32⟩
  | 27 => ⟨S64x1024x4, .i32⟩
  | 28 => ⟨S_, .i32⟩
  | 29 => ⟨S64x1024x4, .i32⟩
  | 30 => ⟨S64x1024x4, .i32⟩
  | 31 => ⟨S64x1024x4, .i32⟩
  | 32 => ⟨S64x4096, .i32⟩
  | 33 => ⟨S64x1x4096, .i32⟩
  | 34 => ⟨S_, .i32⟩
  | 35 => ⟨S64x1x4096, .i32⟩
  | 36 => ⟨S64x1x4096, .i1⟩
  | 37 => ⟨S_, .i32⟩
  | 38 => ⟨S64x1x4096, .i32⟩
  | 39 => ⟨S64x1x4096, .i32⟩
  | 40 => ⟨S64x1x4096, .i32⟩
  | 41 => ⟨S64x4096x1, .i32⟩
  | 42 => ⟨S1, .i32⟩
  | 43 => ⟨S_, .i32⟩
  | 44 => ⟨S64x4096x1, .i32⟩
  | 45 => ⟨S64x4096x1, .i1⟩
  | 46 => ⟨S1x1x1, .i32⟩
  | 47 => ⟨S64x4096x1, .i32⟩
  | 48 => ⟨S64x4096x1, .i1⟩
  | 49 => ⟨S64x4096x1, .i1⟩
  | 50 => ⟨S_, .i1⟩
  | 51 => ⟨S64x4096, .i1⟩
  | 52 => ⟨S64x48x4096, .f32⟩
  | 53 => ⟨S64x48x4096, .i1⟩
  | 54 => ⟨S_, .f32⟩
  | 55 => ⟨S64x48x4096, .f32⟩
  | 56 => ⟨S64x48x4096, .f32⟩
  | 57 => ⟨S64x48x1024x4, .f32⟩
  | 58 => ⟨S64x1x1024x4, .i1⟩
  | 59 => ⟨S64x1x1024x4, .f32⟩
  | 60 => ⟨S64x48x1024x4, .f32⟩
  | 61 => ⟨S64x48x1024x4, .f32⟩
  | 62 => ⟨S64x1024x4, .f32⟩
  | 63 => ⟨S64x1x1024x4, .f32⟩
  | 64 => ⟨S64x48x1024x4, .f32⟩
  | 65 => ⟨S64x48x1024x4, .f32⟩
  | 66 => ⟨S_, .f32⟩
  | 67 => ⟨S64x1024x4, .f32⟩
  | 68 => ⟨S64x1024x4, .i1⟩
  | 69 => ⟨S_, .f32⟩
  | 70 => ⟨S64x1024x4, .f32⟩
  | 71 => ⟨S64x1024x4, .i1⟩
  | 72 => ⟨S64x1024x4, .i1⟩
  | 73 => ⟨S_, .f32⟩
  | 74 => ⟨S64x1024x4, .f32⟩
  | 75 => ⟨S64x1024x4, .i1⟩
  | 76 => ⟨S64x1024x4, .i1⟩
  | 77 => ⟨S_, .f32⟩
  | 78 => ⟨S64x1024x4, .f32⟩
  | 79 => ⟨S64x1024x4, .i1⟩
  | 80 => ⟨S64x1024x4, .i1⟩
  | 81 => ⟨S_, .i32⟩
  | 82 => ⟨S_, .i32⟩
  | 83 => ⟨S_, .f32⟩
  | 84 => ⟨S64x1024x4, .f32⟩
  | 85 => ⟨S64x1024x4, .f32⟩
  | 86 => ⟨S_, .f32⟩
  | 87 => ⟨S64x1024x4, .f32⟩
  | 88 => ⟨S64x1024x4, .f32⟩
  | 89 => ⟨S64x1024x4, .i32⟩
  | 90 => ⟨S_, .i32⟩
  | 91 => ⟨S_, .i32⟩
  | 92 => ⟨S_, .f32⟩
  | 93 => ⟨S64x1024x4, .f32⟩
  | 94 => ⟨S64x1024x4, .f32⟩
  | 95 => ⟨S_, .f32⟩
  | 96 => ⟨S64x1024x4, .f32⟩
  | 97 => ⟨S64x1024x4, .f32⟩
  | 98 => ⟨S64x1024x4, .i32⟩
  | 99 => ⟨S_, .i32⟩
  | 100 => ⟨S64x1024x4, .i32⟩
  | 101 => ⟨S64x1024x4, .i32⟩
  | 102 => ⟨S64x1024x4, .i32⟩
  | 103 => ⟨S64x4096, .i32⟩
  | 104 => ⟨S64x1x4096, .i32⟩
  | 105 => ⟨S_, .i32⟩
  | 106 => ⟨S64x1x4096, .i32⟩
  | 107 => ⟨S64x1x4096, .i1⟩
  | 108 => ⟨S_, .i32⟩
  | 109 => ⟨S64x1x4096, .i32⟩
  | 110 => ⟨S64x1x4096, .i32⟩
  | 111 => ⟨S64x1x4096, .i32⟩
  | 112 => ⟨S64x4096x1, .i32⟩
  | 113 => ⟨S1, .i32⟩
  | 114 => ⟨S_, .i32⟩
  | 115 => ⟨S64x4096x1, .i32⟩
  | 116 => ⟨S64x4096x1, .i1⟩
  | 117 => ⟨S1x1x1, .i32⟩
  | 118 => ⟨S64x4096x1, .i32⟩
  | 119 => ⟨S64x4096x1, .i1⟩
  | 120 => ⟨S64x4096x1, .i1⟩
  | 121 => ⟨S_, .i1⟩
  | 122 => ⟨S64x4096, .i1⟩
  | 123 => ⟨S64x48x4096, .f32⟩
  | 124 => ⟨S64x48x4096, .i1⟩
  | 125 => ⟨S_, .f32⟩
  | 126 => ⟨S64x48x4096, .f32⟩
  | 127 => ⟨S64x48x4096, .f32⟩
  | _ => ⟨S8x384x32x32, .f32⟩

abbrev hbmTy0_2 (i : Nat) : BufTy := match i % 128 with
  | 0 => ⟨S64x48x1024x4, .f32⟩
  | 1 => ⟨S64x1x1024x4, .i1⟩
  | 2 => ⟨S64x1x1024x4, .f32⟩
  | 3 => ⟨S64x48x1024x4, .f32⟩
  | 4 => ⟨S64x48x1024x4, .f32⟩
  | 5 => ⟨S64x1024x4, .f32⟩
  | 6 => ⟨S64x1x1024x4, .f32⟩
  | 7 => ⟨S64x48x1024x4, .f32⟩
  | 8 => ⟨S64x48x1024x4, .f32⟩
  | 9 => ⟨S64x48x1024x4, .f32⟩
  | 10 => ⟨S_, .f32⟩
  | 11 => ⟨S64x1024x4, .f32⟩
  | 12 => ⟨S64x1024x4, .i1⟩
  | 13 => ⟨S_, .f32⟩
  | 14 => ⟨S64x1024x4, .f32⟩
  | 15 => ⟨S64x1024x4, .i1⟩
  | 16 => ⟨S64x1024x4, .i1⟩
  | 17 => ⟨S_, .f32⟩
  | 18 => ⟨S64x1024x4, .f32⟩
  | 19 => ⟨S64x1024x4, .i1⟩
  | 20 => ⟨S64x1024x4, .i1⟩
  | 21 => ⟨S_, .f32⟩
  | 22 => ⟨S64x1024x4, .f32⟩
  | 23 => ⟨S64x1024x4, .i1⟩
  | 24 => ⟨S64x1024x4, .i1⟩
  | 25 => ⟨S_, .i32⟩
  | 26 => ⟨S_, .i32⟩
  | 27 => ⟨S_, .f32⟩
  | 28 => ⟨S64x1024x4, .f32⟩
  | 29 => ⟨S64x1024x4, .f32⟩
  | 30 => ⟨S_, .f32⟩
  | 31 => ⟨S64x1024x4, .f32⟩
  | 32 => ⟨S64x1024x4, .f32⟩
  | 33 => ⟨S64x1024x4, .i32⟩
  | 34 => ⟨S_, .i32⟩
  | 35 => ⟨S_, .i32⟩
  | 36 => ⟨S_, .f32⟩
  | 37 => ⟨S64x1024x4, .f32⟩
  | 38 => ⟨S64x1024x4, .f32⟩
  | 39 => ⟨S_, .f32⟩
  | 40 => ⟨S64x1024x4, .f32⟩
  | 41 => ⟨S64x1024x4, .f32⟩
  | 42 => ⟨S64x1024x4, .i32⟩
  | 43 => ⟨S_, .i32⟩
  | 44 => ⟨S64x1024x4, .i32⟩
  | 45 => ⟨S64x1024x4, .i32⟩
  | 46 => ⟨S64x1024x4, .i32⟩
  | 47 => ⟨S64x4096, .i32⟩
  | 48 => ⟨S64x1x4096, .i32⟩
  | 49 => ⟨S_, .i32⟩
  | 50 => ⟨S64x1x4096, .i32⟩
  | 51 => ⟨S64x1x4096, .i1⟩
  | 52 => ⟨S_, .i32⟩
  | 53 => ⟨S64x1x4096, .i32⟩
  | 54 => ⟨S64x1x4096, .i32⟩
  | 55 => ⟨S64x1x4096, .i32⟩
  | 56 => ⟨S64x4096x1, .i32⟩
  | 57 => ⟨S1, .i32⟩
  | 58 => ⟨S_, .i32⟩
  | 59 => ⟨S64x4096x1, .i32⟩
  | 60 => ⟨S64x4096x1, .i1⟩
  | 61 => ⟨S1x1x1, .i32⟩
  | 62 => ⟨S64x4096x1, .i32⟩
  | 63 => ⟨S64x4096x1, .i1⟩
  | 64 => ⟨S64x4096x1, .i1⟩
  | 65 => ⟨S_, .i1⟩
  | 66 => ⟨S64x4096, .i1⟩
  | 67 => ⟨S64x48x4096, .f32⟩
  | 68 => ⟨S64x48x4096, .i1⟩
  | 69 => ⟨S_, .f32⟩
  | 70 => ⟨S64x48x4096, .f32⟩
  | 71 => ⟨S64x48x4096, .f32⟩
  | 72 => ⟨S64x48x1024x4, .f32⟩
  | 73 => ⟨S64x1x1024x4, .i1⟩
  | 74 => ⟨S64x1x1024x4, .f32⟩
  | 75 => ⟨S64x48x1024x4, .f32⟩
  | 76 => ⟨S64x48x1024x4, .f32⟩
  | 77 => ⟨S64x1024x4, .f32⟩
  | 78 => ⟨S64x1x1024x4, .f32⟩
  | 79 => ⟨S64x48x1024x4, .f32⟩
  | 80 => ⟨S64x48x1024x4, .f32⟩
  | 81 => ⟨S64x48x1024x4, .f32⟩
  | 82 => ⟨S_, .f32⟩
  | 83 => ⟨S64x1024x4, .f32⟩
  | 84 => ⟨S64x1024x4, .i1⟩
  | 85 => ⟨S_, .f32⟩
  | 86 => ⟨S64x1024x4, .f32⟩
  | 87 => ⟨S64x1024x4, .i1⟩
  | 88 => ⟨S64x1024x4, .i1⟩
  | 89 => ⟨S_, .f32⟩
  | 90 => ⟨S64x1024x4, .f32⟩
  | 91 => ⟨S64x1024x4, .i1⟩
  | 92 => ⟨S64x1024x4, .i1⟩
  | 93 => ⟨S_, .f32⟩
  | 94 => ⟨S64x1024x4, .f32⟩
  | 95 => ⟨S64x1024x4, .i1⟩
  | 96 => ⟨S64x1024x4, .i1⟩
  | 97 => ⟨S_, .i32⟩
  | 98 => ⟨S_, .i32⟩
  | 99 => ⟨S_, .f32⟩
  | 100 => ⟨S64x1024x4, .f32⟩
  | 101 => ⟨S64x1024x4, .f32⟩
  | 102 => ⟨S_, .f32⟩
  | 103 => ⟨S64x1024x4, .f32⟩
  | 104 => ⟨S64x1024x4, .f32⟩
  | 105 => ⟨S64x1024x4, .i32⟩
  | 106 => ⟨S_, .i32⟩
  | 107 => ⟨S_, .i32⟩
  | 108 => ⟨S_, .f32⟩
  | 109 => ⟨S64x1024x4, .f32⟩
  | 110 => ⟨S64x1024x4, .f32⟩
  | 111 => ⟨S_, .f32⟩
  | 112 => ⟨S64x1024x4, .f32⟩
  | 113 => ⟨S64x1024x4, .f32⟩
  | 114 => ⟨S64x1024x4, .i32⟩
  | 115 => ⟨S_, .i32⟩
  | 116 => ⟨S64x1024x4, .i32⟩
  | 117 => ⟨S64x1024x4, .i32⟩
  | 118 => ⟨S64x1024x4, .i32⟩
  | 119 => ⟨S64x4096, .i32⟩
  | 120 => ⟨S64x1x4096, .i32⟩
  | 121 => ⟨S_, .i32⟩
  | 122 => ⟨S64x1x4096, .i32⟩
  | 123 => ⟨S64x1x4096, .i1⟩
  | 124 => ⟨S_, .i32⟩
  | 125 => ⟨S64x1x4096, .i32⟩
  | 126 => ⟨S64x1x4096, .i32⟩
  | 127 => ⟨S64x1x4096, .i32⟩
  | _ => ⟨S8x384x32x32, .f32⟩

abbrev hbmTy0_3 (i : Nat) : BufTy := match i % 128 with
  | 0 => ⟨S64x4096x1, .i32⟩
  | 1 => ⟨S1, .i32⟩
  | 2 => ⟨S_, .i32⟩
  | 3 => ⟨S64x4096x1, .i32⟩
  | 4 => ⟨S64x4096x1, .i1⟩
  | 5 => ⟨S1x1x1, .i32⟩
  | 6 => ⟨S64x4096x1, .i32⟩
  | 7 => ⟨S64x4096x1, .i1⟩
  | 8 => ⟨S64x4096x1, .i1⟩
  | 9 => ⟨S_, .i1⟩
  | 10 => ⟨S64x4096, .i1⟩
  | 11 => ⟨S64x48x4096, .f32⟩
  | 12 => ⟨S64x48x4096, .i1⟩
  | 13 => ⟨S_, .f32⟩
  | 14 => ⟨S64x48x4096, .f32⟩
  | 15 => ⟨S64x48x4096, .f32⟩
  | 16 => ⟨S64x48x1024x4, .f32⟩
  | 17 => ⟨S64x1x1024x4, .i1⟩
  | 18 => ⟨S64x1x1024x4, .f32⟩
  | 19 => ⟨S64x48x1024x4, .f32⟩
  | 20 => ⟨S64x48x1024x4, .f32⟩
  | 21 => ⟨S64x1024x4, .f32⟩
  | 22 => ⟨S64x1x1024x4, .f32⟩
  | 23 => ⟨S64x48x1024x4, .f32⟩
  | 24 => ⟨S64x48x1024x4, .f32⟩
  | 25 => ⟨S64x48x1024x4, .f32⟩
  | 26 => ⟨S8x8x1024x4, .f32⟩
  | 27 => ⟨S64x1x1024x4, .f32⟩
  | 28 => ⟨S64x48x1024x4, .f32⟩
  | 29 => ⟨S64x48x1024x4, .f32⟩
  | 30 => ⟨S_, .f32⟩
  | 31 => ⟨S64x48x1024, .f32⟩
  | 32 => ⟨S8x384x1024, .f32⟩
  | 33 => ⟨S8x1024x384, .f32⟩
  | 34 => ⟨S384x384, .f32⟩
  | 35 => ⟨S8x1024x384, .f32⟩
  | 36 => ⟨S1x1x384, .f32⟩
  | 37 => ⟨S8x1024x384, .f32⟩
  | 38 => ⟨S8x1024x384, .f32⟩
  | 39 => ⟨S8x1024x384, .f32⟩
  | 40 => ⟨S8x1024x384, .f32⟩
  | 41 => ⟨S8x384x1024, .f32⟩
  | 42 => ⟨S8x384x32x32, .f32⟩
  | _ => ⟨S8x384x32x32, .f32⟩

abbrev hbmTy (i : Nat) : BufTy := match i / 128 with
  | 0 => hbmTy0_0 i
  | 1 => hbmTy0_1 i
  | 2 => hbmTy0_2 i
  | 3 => hbmTy0_3 i
  | _ => ⟨S8x384x32x32, .f32⟩

abbrev bufTy : (tb : Table) → Fin (tcTables nBuf tb) → BufTy
  | .hbm, ⟨i, _⟩ => hbmTy i
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_20 : Ref sig .tc := ⟨.hbm, 123, rfl⟩
abbrev main_v92 : Ref sig .tc := ⟨.hbm, 124, rfl⟩
abbrev main_v93 : Ref sig .tc := ⟨.hbm, 125, rfl⟩
abbrev main_cst_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_22 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_23 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c : Ref sig .tc := ⟨.hbm, 138, rfl⟩
abbrev main_c_24 : Ref sig .tc := ⟨.hbm, 139, rfl⟩
abbrev main_call0_v0 : Ref sig .tc := ⟨.hbm, 140, rfl⟩
abbrev main_call0_v1 : Ref sig .tc := ⟨.hbm, 141, rfl⟩
abbrev main_call0_v2 : Ref sig .tc := ⟨.hbm, 142, rfl⟩
abbrev main_call0_v3 : Ref sig .tc := ⟨.hbm, 143, rfl⟩
abbrev main_call0_v4 : Ref sig .tc := ⟨.hbm, 144, rfl⟩
abbrev main_v103 : Ref sig .tc := ⟨.hbm, 145, rfl⟩
abbrev main_v104 : Ref sig .tc := ⟨.hbm, 146, rfl⟩
abbrev main_c_25 : Ref sig .tc := ⟨.hbm, 147, rfl⟩
abbrev main_c_26 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_call1_v3 : Ref sig .tc := ⟨.hbm, 152, rfl⟩
abbrev main_call1_v4 : Ref sig .tc := ⟨.hbm, 153, rfl⟩
abbrev main_v105 : Ref sig .tc := ⟨.hbm, 154, rfl⟩
abbrev main_v106 : Ref sig .tc := ⟨.hbm, 155, rfl⟩
abbrev main_c_27 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_call2_c : Ref sig .tc := ⟨.hbm, 162, rfl⟩
abbrev main_call2_v0 : Ref sig .tc := ⟨.hbm, 163, rfl⟩
abbrev main_call2_v1 : Ref sig .tc := ⟨.hbm, 164, rfl⟩
abbrev main_call2_c_0 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_v5 : Ref sig .tc := ⟨.hbm, 169, rfl⟩
abbrev main_call2_c_1 : Ref sig .tc := ⟨.hbm, 170, rfl⟩
abbrev main_call2_c_2 : Ref sig .tc := ⟨.hbm, 171, rfl⟩
abbrev main_call2_v6 : Ref sig .tc := ⟨.hbm, 172, rfl⟩
abbrev main_call2_v7 : Ref sig .tc := ⟨.hbm, 173, rfl⟩
abbrev main_call2_v8 : Ref sig .tc := ⟨.hbm, 174, rfl⟩
abbrev main_call2_v9 : Ref sig .tc := ⟨.hbm, 175, rfl⟩
abbrev main_call2_v10 : Ref sig .tc := ⟨.hbm, 176, rfl⟩
abbrev main_call2_v11 : Ref sig .tc := ⟨.hbm, 177, rfl⟩
abbrev main_call2_c_3 : Ref sig .tc := ⟨.hbm, 178, rfl⟩
abbrev main_call2_v12 : Ref sig .tc := ⟨.hbm, 179, rfl⟩
abbrev main_call2_v13 : Ref sig .tc := ⟨.hbm, 180, rfl⟩
abbrev main_call2_v14 : Ref sig .tc := ⟨.hbm, 181, rfl⟩
abbrev main_call2_cst : Ref sig .tc := ⟨.hbm, 182, rfl⟩
abbrev main_call2_v15 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_28 : Ref sig .tc := ⟨.hbm, 194, rfl⟩
abbrev main_v122 : Ref sig .tc := ⟨.hbm, 195, rfl⟩
abbrev main_v123 : Ref sig .tc := ⟨.hbm, 196, rfl⟩
abbrev main_cst_29 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_cst_30 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_31 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_c_32 : Ref sig .tc := ⟨.hbm, 209, rfl⟩
abbrev main_c_33 : Ref sig .tc := ⟨.hbm, 210, rfl⟩
abbrev main_call3_v0 : Ref sig .tc := ⟨.hbm, 211, rfl⟩
abbrev main_call3_v1 : Ref sig .tc := ⟨.hbm, 212, rfl⟩
abbrev main_call3_v2 : Ref sig .tc := ⟨.hbm, 213, rfl⟩
abbrev main_call3_v3 : Ref sig .tc := ⟨.hbm, 214, rfl⟩
abbrev main_call3_v4 : Ref sig .tc := ⟨.hbm, 215, rfl⟩
abbrev main_v133 : Ref sig .tc := ⟨.hbm, 216, rfl⟩
abbrev main_v134 : Ref sig .tc := ⟨.hbm, 217, rfl⟩
abbrev main_c_34 : Ref sig .tc := ⟨.hbm, 218, rfl⟩
abbrev main_c_35 : Ref sig .tc := ⟨.hbm, 219, rfl⟩
abbrev main_call4_v0 : Ref sig .tc := ⟨.hbm, 220, rfl⟩
abbrev main_call4_v1 : Ref sig .tc := ⟨.hbm, 221, rfl⟩
abbrev main_call4_v2 : Ref sig .tc := ⟨.hbm, 222, rfl⟩
abbrev main_call4_v3 : Ref sig .tc := ⟨.hbm, 223, rfl⟩
abbrev main_call4_v4 : Ref sig .tc := ⟨.hbm, 224, rfl⟩
abbrev main_v135 : Ref sig .tc := ⟨.hbm, 225, rfl⟩
abbrev main_v136 : Ref sig .tc := ⟨.hbm, 226, rfl⟩
abbrev main_c_36 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_call5_c : Ref sig .tc := ⟨.hbm, 233, rfl⟩
abbrev main_call5_v0 : Ref sig .tc := ⟨.hbm, 234, rfl⟩
abbrev main_call5_v1 : Ref sig .tc := ⟨.hbm, 235, rfl⟩
abbrev main_call5_c_0 : Ref sig .tc := ⟨.hbm, 236, rfl⟩
abbrev main_call5_v2 : Ref sig .tc := ⟨.hbm, 237, rfl⟩
abbrev main_call5_v3 : Ref sig .tc := ⟨.hbm, 238, rfl⟩
abbrev main_call5_v4 : Ref sig .tc := ⟨.hbm, 239, rfl⟩
abbrev main_call5_v5 : Ref sig .tc := ⟨.hbm, 240, rfl⟩
abbrev main_call5_c_1 : Ref sig .tc := ⟨.hbm, 241, rfl⟩
abbrev main_call5_c_2 : Ref sig .tc := ⟨.hbm, 242, rfl⟩
abbrev main_call5_v6 : Ref sig .tc := ⟨.hbm, 243, rfl⟩
abbrev main_call5_v7 : Ref sig .tc := ⟨.hbm, 244, rfl⟩
abbrev main_call5_v8 : Ref sig .tc := ⟨.hbm, 245, rfl⟩
abbrev main_call5_v9 : Ref sig .tc := ⟨.hbm, 246, rfl⟩
abbrev main_call5_v10 : Ref sig .tc := ⟨.hbm, 247, rfl⟩
abbrev main_call5_v11 : Ref sig .tc := ⟨.hbm, 248, rfl⟩
abbrev main_call5_c_3 : Ref sig .tc := ⟨.hbm, 249, rfl⟩
abbrev main_call5_v12 : Ref sig .tc := ⟨.hbm, 250, rfl⟩
abbrev main_call5_v13 : Ref sig .tc := ⟨.hbm, 251, rfl⟩
abbrev main_call5_v14 : Ref sig .tc := ⟨.hbm, 252, rfl⟩
abbrev main_call5_cst : Ref sig .tc := ⟨.hbm, 253, rfl⟩
abbrev main_call5_v15 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_37 : Ref sig .tc := ⟨.hbm, 266, rfl⟩
abbrev main_v153 : Ref sig .tc := ⟨.hbm, 267, rfl⟩
abbrev main_v154 : Ref sig .tc := ⟨.hbm, 268, rfl⟩
abbrev main_cst_38 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_cst_39 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_cst_40 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_c_41 : Ref sig .tc := ⟨.hbm, 281, rfl⟩
abbrev main_c_42 : Ref sig .tc := ⟨.hbm, 282, rfl⟩
abbrev main_call6_v0 : Ref sig .tc := ⟨.hbm, 283, rfl⟩
abbrev main_call6_v1 : Ref sig .tc := ⟨.hbm, 284, rfl⟩
abbrev main_call6_v2 : Ref sig .tc := ⟨.hbm, 285, rfl⟩
abbrev main_call6_v3 : Ref sig .tc := ⟨.hbm, 286, rfl⟩
abbrev main_call6_v4 : Ref sig .tc := ⟨.hbm, 287, rfl⟩
abbrev main_v164 : Ref sig .tc := ⟨.hbm, 288, rfl⟩
abbrev main_v165 : Ref sig .tc := ⟨.hbm, 289, rfl⟩
abbrev main_c_43 : Ref sig .tc := ⟨.hbm, 290, rfl⟩
abbrev main_c_44 : Ref sig .tc := ⟨.hbm, 291, rfl⟩
abbrev main_call7_v0 : Ref sig .tc := ⟨.hbm, 292, rfl⟩
abbrev main_call7_v1 : Ref sig .tc := ⟨.hbm, 293, rfl⟩
abbrev main_call7_v2 : Ref sig .tc := ⟨.hbm, 294, rfl⟩
abbrev main_call7_v3 : Ref sig .tc := ⟨.hbm, 295, rfl⟩
abbrev main_call7_v4 : Ref sig .tc := ⟨.hbm, 296, rfl⟩
abbrev main_v166 : Ref sig .tc := ⟨.hbm, 297, rfl⟩
abbrev main_v167 : Ref sig .tc := ⟨.hbm, 298, rfl⟩
abbrev main_c_45 : Ref sig .tc := ⟨.hbm, 299, rfl⟩
abbrev main_v168 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_call8_c : Ref sig .tc := ⟨.hbm, 305, rfl⟩
abbrev main_call8_v0 : Ref sig .tc := ⟨.hbm, 306, rfl⟩
abbrev main_call8_v1 : Ref sig .tc := ⟨.hbm, 307, rfl⟩
abbrev main_call8_c_0 : Ref sig .tc := ⟨.hbm, 308, rfl⟩
abbrev main_call8_v2 : Ref sig .tc := ⟨.hbm, 309, rfl⟩
abbrev main_call8_v3 : Ref sig .tc := ⟨.hbm, 310, rfl⟩
abbrev main_call8_v4 : Ref sig .tc := ⟨.hbm, 311, rfl⟩
abbrev main_call8_v5 : Ref sig .tc := ⟨.hbm, 312, rfl⟩
abbrev main_call8_c_1 : Ref sig .tc := ⟨.hbm, 313, rfl⟩
abbrev main_call8_c_2 : Ref sig .tc := ⟨.hbm, 314, rfl⟩
abbrev main_call8_v6 : Ref sig .tc := ⟨.hbm, 315, rfl⟩
abbrev main_call8_v7 : Ref sig .tc := ⟨.hbm, 316, rfl⟩
abbrev main_call8_v8 : Ref sig .tc := ⟨.hbm, 317, rfl⟩
abbrev main_call8_v9 : Ref sig .tc := ⟨.hbm, 318, rfl⟩
abbrev main_call8_v10 : Ref sig .tc := ⟨.hbm, 319, rfl⟩
abbrev main_call8_v11 : Ref sig .tc := ⟨.hbm, 320, rfl⟩
abbrev main_call8_c_3 : Ref sig .tc := ⟨.hbm, 321, rfl⟩
abbrev main_call8_v12 : Ref sig .tc := ⟨.hbm, 322, rfl⟩
abbrev main_call8_v13 : Ref sig .tc := ⟨.hbm, 323, rfl⟩
abbrev main_call8_v14 : Ref sig .tc := ⟨.hbm, 324, rfl⟩
abbrev main_call8_cst : Ref sig .tc := ⟨.hbm, 325, rfl⟩
abbrev main_call8_v15 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_v177 : Ref sig .tc := ⟨.hbm, 331, rfl⟩
abbrev main_v178 : Ref sig .tc := ⟨.hbm, 332, rfl⟩
abbrev main_v179 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_46 : Ref sig .tc := ⟨.hbm, 338, rfl⟩
abbrev main_v184 : Ref sig .tc := ⟨.hbm, 339, rfl⟩
abbrev main_v185 : Ref sig .tc := ⟨.hbm, 340, rfl⟩
abbrev main_cst_47 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_cst_48 : Ref sig .tc := ⟨.hbm, 345, rfl⟩
abbrev main_v189 : Ref sig .tc := ⟨.hbm, 346, rfl⟩
abbrev main_v190 : Ref sig .tc := ⟨.hbm, 347, rfl⟩
abbrev main_v191 : Ref sig .tc := ⟨.hbm, 348, rfl⟩
abbrev main_cst_49 : Ref sig .tc := ⟨.hbm, 349, rfl⟩
abbrev main_v192 : Ref sig .tc := ⟨.hbm, 350, rfl⟩
abbrev main_v193 : Ref sig .tc := ⟨.hbm, 351, rfl⟩
abbrev main_v194 : Ref sig .tc := ⟨.hbm, 352, rfl⟩
abbrev main_c_50 : Ref sig .tc := ⟨.hbm, 353, rfl⟩
abbrev main_c_51 : Ref sig .tc := ⟨.hbm, 354, rfl⟩
abbrev main_call9_v0 : Ref sig .tc := ⟨.hbm, 355, rfl⟩
abbrev main_call9_v1 : Ref sig .tc := ⟨.hbm, 356, rfl⟩
abbrev main_call9_v2 : Ref sig .tc := ⟨.hbm, 357, rfl⟩
abbrev main_call9_v3 : Ref sig .tc := ⟨.hbm, 358, rfl⟩
abbrev main_call9_v4 : Ref sig .tc := ⟨.hbm, 359, rfl⟩
abbrev main_v195 : Ref sig .tc := ⟨.hbm, 360, rfl⟩
abbrev main_v196 : Ref sig .tc := ⟨.hbm, 361, rfl⟩
abbrev main_c_52 : Ref sig .tc := ⟨.hbm, 362, rfl⟩
abbrev main_c_53 : Ref sig .tc := ⟨.hbm, 363, rfl⟩
abbrev main_call10_v0 : Ref sig .tc := ⟨.hbm, 364, rfl⟩
abbrev main_call10_v1 : Ref sig .tc := ⟨.hbm, 365, rfl⟩
abbrev main_call10_v2 : Ref sig .tc := ⟨.hbm, 366, rfl⟩
abbrev main_call10_v3 : Ref sig .tc := ⟨.hbm, 367, rfl⟩
abbrev main_call10_v4 : Ref sig .tc := ⟨.hbm, 368, rfl⟩
abbrev main_v197 : Ref sig .tc := ⟨.hbm, 369, rfl⟩
abbrev main_v198 : Ref sig .tc := ⟨.hbm, 370, rfl⟩
abbrev main_c_54 : Ref sig .tc := ⟨.hbm, 371, rfl⟩
abbrev main_v199 : Ref sig .tc := ⟨.hbm, 372, rfl⟩
abbrev main_v200 : Ref sig .tc := ⟨.hbm, 373, rfl⟩
abbrev main_v201 : Ref sig .tc := ⟨.hbm, 374, rfl⟩
abbrev main_v202 : Ref sig .tc := ⟨.hbm, 375, rfl⟩
abbrev main_v203 : Ref sig .tc := ⟨.hbm, 376, rfl⟩
abbrev main_call11_c : Ref sig .tc := ⟨.hbm, 377, rfl⟩
abbrev main_call11_v0 : Ref sig .tc := ⟨.hbm, 378, rfl⟩
abbrev main_call11_v1 : Ref sig .tc := ⟨.hbm, 379, rfl⟩
abbrev main_call11_c_0 : Ref sig .tc := ⟨.hbm, 380, rfl⟩
abbrev main_call11_v2 : Ref sig .tc := ⟨.hbm, 381, rfl⟩
abbrev main_call11_v3 : Ref sig .tc := ⟨.hbm, 382, rfl⟩
abbrev main_call11_v4 : Ref sig .tc := ⟨.hbm, 383, rfl⟩
abbrev main_call11_v5 : Ref sig .tc := ⟨.hbm, 384, rfl⟩
abbrev main_call11_c_1 : Ref sig .tc := ⟨.hbm, 385, rfl⟩
abbrev main_call11_c_2 : Ref sig .tc := ⟨.hbm, 386, rfl⟩
abbrev main_call11_v6 : Ref sig .tc := ⟨.hbm, 387, rfl⟩
abbrev main_call11_v7 : Ref sig .tc := ⟨.hbm, 388, rfl⟩
abbrev main_call11_v8 : Ref sig .tc := ⟨.hbm, 389, rfl⟩
abbrev main_call11_v9 : Ref sig .tc := ⟨.hbm, 390, rfl⟩
abbrev main_call11_v10 : Ref sig .tc := ⟨.hbm, 391, rfl⟩
abbrev main_call11_v11 : Ref sig .tc := ⟨.hbm, 392, rfl⟩
abbrev main_call11_c_3 : Ref sig .tc := ⟨.hbm, 393, rfl⟩
abbrev main_call11_v12 : Ref sig .tc := ⟨.hbm, 394, rfl⟩
abbrev main_call11_v13 : Ref sig .tc := ⟨.hbm, 395, rfl⟩
abbrev main_call11_v14 : Ref sig .tc := ⟨.hbm, 396, rfl⟩
abbrev main_call11_cst : Ref sig .tc := ⟨.hbm, 397, rfl⟩
abbrev main_call11_v15 : Ref sig .tc := ⟨.hbm, 398, rfl⟩
abbrev main_v204 : Ref sig .tc := ⟨.hbm, 399, rfl⟩
abbrev main_v205 : Ref sig .tc := ⟨.hbm, 400, rfl⟩
abbrev main_v206 : Ref sig .tc := ⟨.hbm, 401, rfl⟩
abbrev main_v207 : Ref sig .tc := ⟨.hbm, 402, rfl⟩
abbrev main_v208 : Ref sig .tc := ⟨.hbm, 403, rfl⟩
abbrev main_v209 : Ref sig .tc := ⟨.hbm, 404, rfl⟩
abbrev main_v210 : Ref sig .tc := ⟨.hbm, 405, rfl⟩
abbrev main_v211 : Ref sig .tc := ⟨.hbm, 406, rfl⟩
abbrev main_v212 : Ref sig .tc := ⟨.hbm, 407, rfl⟩
abbrev main_v213 : Ref sig .tc := ⟨.hbm, 408, rfl⟩
abbrev main_v214 : Ref sig .tc := ⟨.hbm, 409, rfl⟩
abbrev main_v215 : Ref sig .tc := ⟨.hbm, 410, rfl⟩
abbrev main_v216 : Ref sig .tc := ⟨.hbm, 411, rfl⟩
abbrev main_v217 : Ref sig .tc := ⟨.hbm, 412, rfl⟩
abbrev main_v218 : Ref sig .tc := ⟨.hbm, 413, rfl⟩
abbrev main_cst_55 : Ref sig .tc := ⟨.hbm, 414, rfl⟩
abbrev main_v219 : Ref sig .tc := ⟨.hbm, 415, rfl⟩
abbrev main_v220 : Ref sig .tc := ⟨.hbm, 416, rfl⟩
abbrev main_v221 : Ref sig .tc := ⟨.hbm, 417, rfl⟩
abbrev main_v222 : Ref sig .tc := ⟨.hbm, 418, rfl⟩
abbrev main_v223 : Ref sig .tc := ⟨.hbm, 419, rfl⟩
abbrev main_v224 : Ref sig .tc := ⟨.hbm, 420, rfl⟩
abbrev main_v225 : Ref sig .tc := ⟨.hbm, 421, rfl⟩
abbrev main_v226 : Ref sig .tc := ⟨.hbm, 422, rfl⟩
abbrev main_v227 : Ref sig .tc := ⟨.hbm, 423, rfl⟩
abbrev main_v228 : Ref sig .tc := ⟨.hbm, 424, rfl⟩
abbrev main_v229 : Ref sig .tc := ⟨.hbm, 425, rfl⟩
abbrev main_v230 : Ref sig .tc := ⟨.hbm, 426, rfl⟩

abbrev nD : Nat := 1
abbrev τ : Topo := Topo.v7x

variable {F : FTy → Type} [FloatOps F]
-- ==== Proof.Consts.lean ====
module

public import Idealize.ShloMosaic.PureOps.Ideal
public import Idealize.ShloMosaic.PureOps.Ideal.Laws
public import Mathlib.Tactic.NormNum

/-! The real numbers that the programs' literal words stand for. -/

@[expose] public section

namespace Cert.Consts

open Idealize.ShloMosaic

/-- The literal 31. -/
theorem c31 : Ideal.ofBits .f32 0x41F80000#32 = 31 := by
  have : Ideal.ofBits .f32 0x41F80000#32 = ((31 : ℝ) : EReal) := by
    simp [Ideal.ofBits, Ideal.ieee, -EReal.coe_mul]; norm_num
  exact this

/-- The literal 30. -/
theorem c30 : Ideal.ofBits .f32 0x41F00000#32 = 30 := by
  have : Ideal.ofBits .f32 0x41F00000#32 = ((30 : ℝ) : EReal) := by
    simp [Ideal.ofBits, Ideal.ieee, -EReal.coe_mul]; norm_num
  exact this

/-- The literal −1. -/
theorem cm1 : Ideal.ofBits .f32 0xBF800000#32 = -1 := by
  have : Ideal.ofBits .f32 0xBF800000#32 = ((-1 : ℝ) : EReal) := by
    simp [Ideal.ofBits, Ideal.ieee, -EReal.coe_mul]; norm_num
  exact this

/-- The literal 1. -/
theorem c1 : Ideal.ofBits .f32 0x3F800000#32 = 1 := by
  have : Ideal.ofBits .f32 0x3F800000#32 = ((1 : ℝ) : EReal) := by
    simp [Ideal.ofBits, Ideal.ieee, -EReal.coe_mul]; norm_num
  exact this

/-- The literal 2. -/
theorem c2 : Ideal.ofBits .f32 0x40000000#32 = ((2 : ℝ) : EReal) := by
  simp [Ideal.ofBits, Ideal.ieee, -EReal.coe_mul]; norm_num

/-- The literal 32. -/
theorem c32 : Ideal.ofBits .f32 0x42000000#32 = ((32 : ℝ) : EReal) := by
  simp [Ideal.ofBits, Ideal.ieee, -EReal.coe_mul]; norm_num

/-- The literal one half. -/
theorem chalf : Ideal.ofBits .f32 0x3F000000#32 = ((1 / 2 : ℝ) : EReal) := by
  simp [Ideal.ofBits, Ideal.ieee, -EReal.coe_mul]; norm_num

/-- The literal one thirty-second. -/
theorem c32nd : Ideal.ofBits .f32 0x3D000000#32 = ((1 / 32 : ℝ) : EReal) := by
  simp [Ideal.ofBits, Ideal.ieee, -EReal.coe_mul]; norm_num

/-- The word of minus infinity. -/
theorem cbot : Ideal.ofBits .f32 0xFF800000#32 = ⊥ := by
  simp [Ideal.ofBits, Ideal.ieee]

/-- The word of plus infinity. -/
theorem ctop : Ideal.ofBits .f32 0x7F800000#32 = ⊤ := by
  simp [Ideal.ofBits, Ideal.ieee]

/-- A word whose exponent bits are not all ones stands for a real number. -/
theorem real_of_exp (w : BitVec 32) (h : (w.extractLsb' 23 8).toNat ≠ 255) : ∃ r : ℝ, Ideal.ofBits .f32 w = (r : EReal) := by
  unfold Ideal.ofBits Ideal.ieee
  simp only
  rw [if_neg (by simpa using h)]
  split_ifs <;> exact ⟨_, rfl⟩

end Cert.Consts
-- ==== Proof.Tables.lean ====
/-
# The tables

The kernel's program and the reference's each hold the position table (the reference twice, once for the columns and once
for the rows) and the reference points. They are the same words, and every word of the position table is a real number.
-/
module

public import proofs.«01_k».proof.KernelIdeal
public import proofs.«01_k».proof.ReferenceIdeal
public import proofs.«01_k».proof.Proof.Consts
public import Idealize.ShloMosaic.Lib.Tactic

@[expose] public section

set_option maxRecDepth 65536

noncomputable section

namespace Cert.Tables

open Idealize.ShloMosaic

/-- The reference's two copies of the position table are one. -/
theorem wave_twice : ReferenceIdeal.lit1 = ReferenceIdeal.lit0 := by sl_kernel_rfl

/-- The kernel's position table is the reference's. -/
theorem wave_same : KernelIdeal.lit0 = ReferenceIdeal.lit0 := by sl_kernel_rfl

/-- The kernel's reference points are the reference's. -/
theorem points_same : KernelIdeal.lit1 = ReferenceIdeal.lit2 := by sl_kernel_rfl

/-- No word of the position table has the exponent of an infinity. -/
theorem wave_exp : ∀ (a : Fin 48) (b : Fin 128), ((KernelIdeal.lit0t (128 * a.val + b.val)).extractLsb' 23 8).toNat ≠ 255 := by
  decide +kernel

/-- Every entry of the position table is a real number. -/
theorem wave_real (i : Fin 6144) : ∃ r : ℝ, Ideal.ofBits .f32 (KernelIdeal.lit0 i) = (r : EReal) := by
  have h := wave_exp ⟨i.val / 128, by omega⟩ ⟨i.val % 128, by omega⟩
  have e : 128 * (i.val / 128) + i.val % 128 = i.val := by omega
  rw [show 128 * ((⟨i.val / 128, by omega⟩ : Fin 48)).val + ((⟨i.val % 128, by omega⟩ : Fin 128)).val = i.val from e] at h
  exact Consts.real_of_exp _ h

end Cert.Tables
-- ==== Proof.KernelDefs.lean ====
module

public import proofs.«01_k».proof.Proof.Gen.KernelIdeal
public import Idealize.ShloMosaic.PureOps.Ideal

/-! What one block of the kernel computes, written once for every head and every sampling point.

The kernel's body writes its eight heads and four points out one after another. The definitions here are
those operations with the head and the point as arguments; `Proof/KernelBlock.lean` shows that the block the
body stores is `block` of what it reads. -/

@[expose] public section

noncomputable section

namespace Cert.KernelIdeal.Block

open Idealize.ShloMosaic Cert.KernelIdeal Cert.KernelIdeal.Gen

/-- The pixel coordinate of a sampling point: reference coordinate plus a 32nd of the offset, times 32, less a half. -/
def pix (r o : FVec Ideal S1024x1 .f32) : FVec Ideal S1024x1 .f32 :=
  subf (mulf (addf r (mulf o (broadcast S1024x1 (Scalar.ofBits .f32 0x3D000000#32))))
    (broadcast S1024x1 (Scalar.ofBits .f32 0x42000000#32))) (broadcast S1024x1 (Scalar.ofBits .f32 0x3F000000#32))

/-- 1 where the lower of the two cells lies in the image, else 0. -/
def lowIn (f : FVec Ideal S1024x1 .f32) : FVec Ideal S1024x1 .f32 :=
  sitofp .f32 (extui 32 (andi (cmpf .oge f (broadcast S1024x1 (Scalar.ofBits (F := Ideal) .f32 0x00000000#32)))
    (cmpf .ole f (broadcast S1024x1 (Scalar.ofBits (F := Ideal) .f32 0x41F80000#32)))) natLt_1_32)

/-- 1 where the upper of the two cells lies in the image, else 0. -/
def highIn (f : FVec Ideal S1024x1 .f32) : FVec Ideal S1024x1 .f32 :=
  sitofp .f32 (extui 32 (andi (cmpf .oge f (broadcast S1024x1 (Scalar.ofBits (F := Ideal) .f32 0xBF800000#32)))
    (cmpf .ole f (broadcast S1024x1 (Scalar.ofBits (F := Ideal) .f32 0x41F00000#32)))) natLt_1_32)

/-- The cell number, kept between 0 and 31. -/
def cell (f : FVec Ideal S1024x1 .f32) : IVec S1024x1 32 :=
  fptosi 32 (minimumf (broadcast S1024x1 (Scalar.ofBits .f32 0x41F80000#32))
    (maximumf (broadcast S1024x1 (Scalar.ofBits .f32 0x00000000#32)) f))

/-- A weight in the column of its cell, 0 in the others. -/
def oneHot (c : IVec S1024x1 32) (w : FVec Ideal S1024x1 .f32) : FVec Ideal S1024x32 .f32 :=
  select (cmpi .eq (iota .tc S1024x32 32 [1] iota_S1024x32_d1_w32) (broadcastTo S1024x32 c broadcasts_S1024x1_S1024x32))
    (broadcastTo S1024x32 (shapeCast S1024x1 w shapeCasts_S1024x1_S1024x1) broadcasts_S1024x1_S1024x32)
    (broadcast S1024x32 (Scalar.ofBits .f32 0x00000000#32))

/-- The linear interpolation weights along one axis of 32 cells. -/
def hat (x : FVec Ideal S1024x1 .f32) : FVec Ideal S1024x32 .f32 :=
  addf
    (oneHot (cell (floor x))
      (mulf (subf (broadcast S1024x1 (Scalar.ofBits .f32 0x3F800000#32)) (subf x (floor x))) (lowIn (floor x))))
    (oneHot (cell (addf (floor x) (broadcast S1024x1 (Scalar.ofBits .f32 0x3F800000#32))))
      (mulf (subf x (floor x)) (highIn (floor x))))

/-- Each of 32 columns repeated 32 times in a row. -/
def repeat32 (x : FVec Ideal S1024x32 .bf16) : FVec Ideal S1024x1024 .bf16 :=
  shapeCast S1024x1024 (broadcastTo S1024x32x32 (shapeCast S1024x32x1 x shapeCasts_S1024x32_S1024x32x1)
    broadcasts_S1024x32x1_S1024x32x32) shapeCasts_S1024x32x32_S1024x1024

/-- The 32 columns laid side by side 32 times. -/
def tile32 (x : FVec Ideal S1024x32 .bf16) : FVec Ideal S1024x1024 .bf16 :=
  concatenate S1024x1024 1 [⟨S1024x32, x⟩, ⟨S1024x32, x⟩, ⟨S1024x32, x⟩, ⟨S1024x32, x⟩, ⟨S1024x32, x⟩, ⟨S1024x32, x⟩, ⟨S1024x32, x⟩, ⟨S1024x32, x⟩,
      ⟨S1024x32, x⟩, ⟨S1024x32, x⟩, ⟨S1024x32, x⟩, ⟨S1024x32, x⟩, ⟨S1024x32, x⟩, ⟨S1024x32, x⟩, ⟨S1024x32, x⟩, ⟨S1024x32, x⟩,
      ⟨S1024x32, x⟩, ⟨S1024x32, x⟩, ⟨S1024x32, x⟩, ⟨S1024x32, x⟩, ⟨S1024x32, x⟩, ⟨S1024x32, x⟩, ⟨S1024x32, x⟩, ⟨S1024x32, x⟩,
      ⟨S1024x32, x⟩, ⟨S1024x32, x⟩, ⟨S1024x32, x⟩, ⟨S1024x32, x⟩, ⟨S1024x32, x⟩, ⟨S1024x32, x⟩, ⟨S1024x32, x⟩, ⟨S1024x32, x⟩]
    concatenates_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x32_S1024x1024_d1

/-- One sampling point's row of the sampling matrix: interpolation weights of the 1024 cells times the point's weight. -/
def point (rx ry ox oy a : FVec Ideal S1024x1 .f32) : FVec Ideal S1024x1024 .bf16 :=
  mulf
    (repeat32 (truncf .bf16 (mulf (hat (pix ry oy)) (broadcastTo S1024x32 a broadcasts_S1024x1_S1024x32)) bitsLt_bf16_f32))
    (tile32 (truncf .bf16 (hat (pix rx ox)) bitsLt_bf16_f32))

/-- The softmax of one head's four logits. -/
def weights (a : FVec Ideal S1024x4 .f32) : FVec Ideal S1024x4 .f32 :=
  divf
    (exp (subf a (broadcastTo S1024x4 (shapeCast S1024x1
      (multiReduction .maximumf [1] S1024 a 0xFF800000#32 reduces_S1024x4_S1024 (.inl rfl) rfl)
      shapeCasts_S1024_S1024x1) broadcasts_S1024x1_S1024x4)))
    (broadcastTo S1024x4 (shapeCast S1024x1
      (multiReduction .add [1] S1024 (exp (subf a (broadcastTo S1024x4 (shapeCast S1024x1
        (multiReduction .maximumf [1] S1024 a 0xFF800000#32 reduces_S1024x4_S1024 (.inl rfl) rfl)
        shapeCasts_S1024_S1024x1) broadcasts_S1024x1_S1024x4))) 0x00000000#32 reduces_S1024x4_S1024 (.inl rfl) rfl)
      shapeCasts_S1024_S1024x1) broadcasts_S1024x1_S1024x4)

/-- A column of the offsets lies within them. -/
theorem slices_off (k : Fin 64) : S1024x64.Slices ![0, k.val] S1024x1 := by revert k; decide

/-- A head's four logits lie within the logits. -/
theorem slices_log (h : Fin 8) : S1024x32.Slices ![0, 4 * h.val] S1024x4 := by revert h; decide

/-- A point's weight lies within its head's weights. -/
theorem slices_aw (p : Fin 4) : S1024x4.Slices ![0, p.val] S1024x1 := by revert p; decide

/-- A head's 48 channels lie within the values. -/
theorem slices_v (h : Fin 8) : S1024x384.Slices ![0, 48 * h.val] S1024x48 := by revert h; decide

/-- One column of the offsets. -/
def offCol (off : FVec Ideal S1024x64 .f32) (k : Fin 64) : FVec Ideal S1024x1 .f32 :=
  extractStridedSlice S1024x1 ![0, k.val] off (slices_off k)

/-- The four attention weights of one head. -/
def headWeights (lg : FVec Ideal S1024x32 .f32) (h : Fin 8) : FVec Ideal S1024x4 .f32 :=
  weights (extractStridedSlice S1024x4 ![0, 4 * h.val] lg (slices_log h))

/-- The sampling matrix of one head's point `p`. -/
def headPoint (rx ry : FVec Ideal S1024x1 .f32) (off : FVec Ideal S1024x64 .f32) (lg : FVec Ideal S1024x32 .f32)
    (h : Fin 8) (p : Fin 4) : FVec Ideal S1024x1024 .bf16 :=
  point rx ry (offCol off ⟨8 * h.val + 2 * p.val, by omega⟩) (offCol off ⟨8 * h.val + 2 * p.val + 1, by omega⟩)
    (extractStridedSlice S1024x1 ![0, p.val] (headWeights lg h) (slices_aw p))

/-- What the scratch array holds after a store of a matrix: that matrix, cast from its shape to the same shape. -/
def stored (x : FVec Ideal S1024x1024 .bf16) : FVec Ideal S1024x1024 .bf16 :=
  shapeCast S1024x1024 x shapeCasts_S1024x1024_S1024x1024

/-- The sampling matrix of one head: its four points summed, one after another, in the scratch array. -/
def headMatrix (rx ry : FVec Ideal S1024x1 .f32) (off : FVec Ideal S1024x64 .f32) (lg : FVec Ideal S1024x32 .f32)
    (h : Fin 8) : FVec Ideal S1024x1024 .bf16 :=
  stored (addf (stored (addf (stored (addf (stored (headPoint rx ry off lg h 0)) (headPoint rx ry off lg h 1)))
    (headPoint rx ry off lg h 2))) (headPoint rx ry off lg h 3))

/-- One head's share of the projected output. -/
def headOut (A : FVec Ideal S1024x1024 .bf16) (v : FVec Ideal S1024x384 .bf16) (h : Fin 8) (w : FVec Ideal S48x384 .f32) :
    FVec Ideal S1024x384 .f32 :=
  matmul dot_S1024x48_S48x384_S1024x384_1_0_0_1_n_n none
    (matmul dot_S1024x1024_S1024x48_S1024x48_1_0_0_1_n_n none A
      (extractStridedSlice S1024x48 ![0, 48 * h.val] v (slices_v h)) (constant S1024x48 .f32 0x00000000#32))
    (shapeCast S48x384 w shapeCasts_S48x384_S48x384) (constant S1024x384 .f32 0x00000000#32)

/-- What the block stores: the heads' shares summed, the bias, twice the query with its position table. -/
def combine (q : FVec Ideal S1024x384 .f32) (o : Fin 8 → FVec Ideal S1024x384 .f32) (b : FVec Ideal S1x384 .f32) :
    FVec Ideal S1x1024x384 .f32 :=
  shapeCast S1x1024x384 (addf (addf
    (addf (addf (addf (addf (addf (addf (addf (o 0) (o 1)) (o 2)) (o 3)) (o 4)) (o 5)) (o 6)) (o 7))
    (broadcastTo S1024x384 (shapeCast S1x384 b shapeCasts_S1x384_S1x384) broadcasts_S1x384_S1024x384))
    (mulf (broadcast S1024x384 (Scalar.ofBits .f32 0x40000000#32)) q)) shapeCasts_S1024x384_S1x1024x384

end Cert.KernelIdeal.Block
-- ==== Proof.Sample.lean ====
module

public import Idealize.ShloMosaic.PureOps.Ideal
public import Mathlib.Tactic.Linarith
public import Mathlib.Tactic.SplitIfs

/-! Bilinear sampling of an image of 32 × 32 cells, in the extended reals, with no program in sight.

The reference reads four cells and weighs them. The kernel builds the row of all 1024 weights, most of them 0,
and multiplies it by the image. `row_sum` says that the two agree. -/

@[expose] public section

noncomputable section

namespace Cert.Sample

open Idealize.ShloMosaic

/-- The floor of a pixel coordinate. -/
def fl (x : EReal) : EReal := Ideal.liftRound Int.floor x

/-- 1 where the lower cell lies in the image, else 0. -/
def lowIn (f : EReal) : EReal := if 0 ≤ f ∧ f ≤ 31 then 1 else 0

/-- 1 where the upper cell lies in the image, else 0. -/
def highIn (f : EReal) : EReal := if -1 ≤ f ∧ f ≤ 30 then 1 else 0

/-- The weight of the lower cell, 0 outside the image. -/
def wlo (x : EReal) : EReal := (1 - (x - fl x)) * lowIn (fl x)

/-- The weight of the upper cell, 0 outside the image. -/
def whi (x : EReal) : EReal := (x - fl x) * highIn (fl x)

/-- The cell number as a word, kept between 0 and 31. -/
def cellW (f : EReal) : BitVec 32 := Ideal.fptosi 32 (min 31 (max 0 f))

/-- The floor of minus infinity. -/
theorem fl_bot : fl ⊥ = ⊥ := rfl

/-- The floor of plus infinity. -/
theorem fl_top : fl ⊤ = ⊤ := rfl

/-- Plus infinity is at most no real. -/
theorem not_top_le (r : ℝ) : ¬ ((⊤ : EReal) ≤ (r : EReal)) := by
  rw [top_le_iff]; exact EReal.coe_ne_top r

/-- No real is at most minus infinity. -/
theorem not_le_bot (r : ℝ) : ¬ ((r : EReal) ≤ ⊥) := by
  rw [le_bot_iff]; exact EReal.coe_ne_bot r

/-- The lower cell of minus infinity lies outside. -/
theorem lowIn_bot : lowIn ⊥ = 0 := if_neg fun h => not_le_bot 0 h.1

/-- The lower cell of plus infinity lies outside. -/
theorem lowIn_top : lowIn ⊤ = 0 := if_neg fun h => not_top_le 31 h.2

/-- The upper cell of minus infinity lies outside. -/
theorem highIn_bot : highIn ⊥ = 0 := if_neg fun h => not_le_bot (-1) h.1

/-- The upper cell of plus infinity lies outside. -/
theorem highIn_top : highIn ⊤ = 0 := if_neg fun h => not_top_le 30 h.2

/-- The cell number is below 32, whatever the coordinate. -/
theorem cellW_lt (f : EReal) : (cellW f).toNat < 32 := by
  have key : ∀ r : ℝ, 0 ≤ r → r ≤ 31 → (Ideal.fptosi 32 (r : EReal)).toNat < 32 := by
    intro r h0 h1
    have f0 : 0 ≤ ⌊r⌋ := Int.floor_nonneg.2 h0
    have f1 : ⌊r⌋ ≤ 31 := by
      have := Int.floor_le_floor h1
      rwa [show ((31 : ℝ)) = ((31 : ℤ) : ℝ) by norm_num, Int.floor_intCast] at this
    rw [Ideal.fptosi, Ideal.toIntClamped_coe, if_pos h0, BitVec.toNat_ofInt]
    omega
  unfold cellW
  have lo : (0 : EReal) ≤ min 31 (max 0 f) := le_min (EReal.coe_nonneg.2 (by norm_num : (0 : ℝ) ≤ 31)) (le_max_left _ _)
  have hi : min (31 : EReal) (max 0 f) ≤ 31 := min_le_left _ _
  generalize min (31 : EReal) (max 0 f) = z at lo hi
  induction z with
  | bot => exact absurd lo (not_le_bot 0)
  | top => exact absurd hi (not_top_le 31)
  | coe r => exact key r (EReal.coe_nonneg.1 lo) (EReal.coe_le_coe_iff.1 hi)

/-- The cell number. -/
def cell (f : EReal) : Fin 32 := ⟨(cellW f).toNat, cellW_lt f⟩

/-- The cell number as the word of a number below 32. -/
theorem cellW_eq (f : EReal) : cellW f = BitVec.ofNat 32 (cell f).val := by
  apply BitVec.eq_of_toNat_eq
  simp [cell]

/-- The interpolation weight of cell `k` along one axis. -/
def hat (x : EReal) (k : Fin 32) : EReal :=
  (if k = cell (fl x) then wlo x else 0) + (if k = cell (fl x + 1) then whi x else 0)

/-- A real less its floor. -/
theorem frac (r : ℝ) : ((r : EReal) - fl r) = ((r - ⌊r⌋ : ℝ) : EReal) := rfl

/-- The lower test gives 1 or 0. -/
theorem lowIn_cases (f : EReal) : lowIn f = 1 ∨ lowIn f = 0 := by unfold lowIn; split_ifs <;> simp

/-- The upper test gives 1 or 0. -/
theorem highIn_cases (f : EReal) : highIn f = 1 ∨ highIn f = 0 := by unfold highIn; split_ifs <;> simp

/-- The lower cell's weight is a nonnegative real. -/
theorem wlo_real (x : EReal) : 0 ≤ wlo x ∧ wlo x ≠ ⊤ := by
  unfold wlo
  induction x with
  | bot => rw [fl_bot, lowIn_bot, mul_zero]; simp
  | top => rw [fl_top, lowIn_top, mul_zero]; simp
  | coe r =>
    rw [frac]
    rcases lowIn_cases (fl r) with h | h <;> rw [h]
    · rw [mul_one]
      have : (r - ⌊r⌋ : ℝ) < 1 := by have := Int.lt_floor_add_one r; linarith
      exact ⟨EReal.coe_nonneg.2 (by linarith : (0 : ℝ) ≤ 1 - (r - ⌊r⌋)), EReal.coe_ne_top (1 - (r - ⌊r⌋))⟩
    · rw [mul_zero]; simp

/-- The upper cell's weight is a nonnegative real. -/
theorem whi_real (x : EReal) : 0 ≤ whi x ∧ whi x ≠ ⊤ := by
  unfold whi
  induction x with
  | bot => rw [fl_bot, highIn_bot, mul_zero]; simp
  | top => rw [fl_top, highIn_top, mul_zero]; simp
  | coe r =>
    rw [frac]
    rcases highIn_cases (fl r) with h | h <;> rw [h]
    · rw [mul_one]
      exact ⟨EReal.coe_nonneg.2 (by have := Int.floor_le r; linarith), EReal.coe_ne_top _⟩
    · rw [mul_zero]; simp

/-- The lower cell's weight is not negative. -/
theorem wlo_nonneg (x : EReal) : 0 ≤ wlo x := (wlo_real x).1

/-- The upper cell's weight is not negative. -/
theorem whi_nonneg (x : EReal) : 0 ≤ whi x := (whi_real x).1

/-- No interpolation weight is negative. -/
theorem hat_nonneg (x : EReal) (k : Fin 32) : 0 ≤ hat x k := by
  unfold hat
  apply add_nonneg <;> split_ifs <;> first | exact le_rfl | exact wlo_nonneg x | exact whi_nonneg x

/-- The upper cell's test, as the reference writes it. -/
theorem high_iff (f : EReal) : (0 ≤ f + 1 ∧ f + 1 ≤ 31) ↔ (-1 ≤ f ∧ f ≤ 30) := by
  induction f with
  | bot =>
    rw [EReal.bot_add]
    exact ⟨fun h => absurd h.1 (not_le_bot 0), fun h => absurd h.1 (not_le_bot (-1))⟩
  | top =>
    rw [show (⊤ : EReal) + 1 = ⊤ from rfl]
    exact ⟨fun h => absurd h.2 (not_top_le 31), fun h => absurd h.2 (not_top_le 30)⟩
  | coe r =>
    have e : ((0 : ℝ) ≤ r + 1 ∧ r + 1 ≤ 31) ↔ (-1 ≤ r ∧ r ≤ 30) := by
      constructor <;> rintro ⟨a, b⟩ <;> constructor <;> linarith
    refine Iff.trans ?_ (e.trans ?_)
    · exact and_congr (EReal.coe_le_coe_iff (x := 0) (y := r + 1)) (EReal.coe_le_coe_iff (x := r + 1) (y := 31))
    · exact and_congr (EReal.coe_le_coe_iff (x := -1) (y := r)).symm (EReal.coe_le_coe_iff (x := r) (y := 30)).symm

/-- A cell of the flat image. -/
def at_ (y x : Fin 32) : Fin 1024 := ⟨32 * y.val + x.val, by omega⟩

/-- The bilinear sample of the flat image `f` at the pixel coordinates `x`, `y`. -/
def bil (f : Fin 1024 → EReal) (x y : EReal) : EReal :=
  f (at_ (cell (fl y)) (cell (fl x))) * (wlo x * wlo y)
    + f (at_ (cell (fl y)) (cell (fl x + 1))) * (whi x * wlo y)
    + f (at_ (cell (fl y + 1)) (cell (fl x))) * (wlo x * whi y)
    + f (at_ (cell (fl y + 1)) (cell (fl x + 1))) * (whi x * whi y)

/-- The weight of cell `s` for one point of weight `a`. -/
def wt (x y a : EReal) (s : Fin 1024) : EReal :=
  hat y ⟨s.val / 32, by omega⟩ * a * hat x ⟨s.val % 32, by omega⟩

/-- No weight of a cell is negative. -/
theorem wt_nonneg (x y a : EReal) (ha : 0 ≤ a) (s : Fin 1024) : 0 ≤ wt x y a s :=
  mul_nonneg (mul_nonneg (hat_nonneg _ _) ha) (hat_nonneg _ _)

/-- A sum against a weight that is `w` at one cell and 0 elsewhere. -/
theorem sum_one (f : Fin 1024 → EReal) (cy cx : Fin 32) (w : EReal) :
    ∑ s : Fin 1024, (if (⟨s.val / 32, by omega⟩ : Fin 32) = cy ∧ (⟨s.val % 32, by omega⟩ : Fin 32) = cx then w else 0) * f s
      = w * f (at_ cy cx) := by
  rw [Finset.sum_eq_single (at_ cy cx)]
  · rw [if_pos]
    constructor <;> apply Fin.ext <;> simp [at_] <;> omega
  · intro s _ hs
    rw [if_neg, zero_mul]
    rintro ⟨h1, h2⟩
    apply hs
    have := congrArg Fin.val h1
    have := congrArg Fin.val h2
    apply Fin.ext
    simp [at_] at *
    omega
  · simp

/-- A point's weight of a cell, as four weights each at one cell. -/
theorem wt_split (x y a : EReal) (ha : 0 ≤ a) (hat' : a ≠ ⊤) (s : Fin 1024) :
    wt x y a s =
      ((if (⟨s.val / 32, by omega⟩ : Fin 32) = cell (fl y) ∧ (⟨s.val % 32, by omega⟩ : Fin 32) = cell (fl x)
          then wlo y * a * wlo x else 0)
        + (if (⟨s.val / 32, by omega⟩ : Fin 32) = cell (fl y) ∧ (⟨s.val % 32, by omega⟩ : Fin 32) = cell (fl x + 1)
          then wlo y * a * whi x else 0))
      + ((if (⟨s.val / 32, by omega⟩ : Fin 32) = cell (fl y + 1) ∧ (⟨s.val % 32, by omega⟩ : Fin 32) = cell (fl x)
          then whi y * a * wlo x else 0)
        + (if (⟨s.val / 32, by omega⟩ : Fin 32) = cell (fl y + 1) ∧ (⟨s.val % 32, by omega⟩ : Fin 32) = cell (fl x + 1)
          then whi y * a * whi x else 0)) := by
  unfold wt
  generalize (⟨s.val / 32, _⟩ : Fin 32) = i
  generalize (⟨s.val % 32, _⟩ : Fin 32) = j
  have e1 : ∀ (P : Prop) [Decidable P] (w : EReal), 0 ≤ w → 0 ≤ (if P then w else 0) := by
    intro P _ w h; split_ifs <;> simp [h]
  unfold hat
  rw [EReal.right_distrib_of_nonneg (e1 _ _ (wlo_nonneg y)) (e1 _ _ (whi_nonneg y)),
    EReal.right_distrib_of_nonneg (mul_nonneg (e1 _ _ (wlo_nonneg y)) ha) (mul_nonneg (e1 _ _ (whi_nonneg y)) ha),
    EReal.left_distrib_of_nonneg (e1 _ _ (wlo_nonneg x)) (e1 _ _ (whi_nonneg x)),
    EReal.left_distrib_of_nonneg (e1 _ _ (wlo_nonneg x)) (e1 _ _ (whi_nonneg x))]
  simp only [ite_and, ite_mul, mul_ite, zero_mul, mul_zero]
  congr 1 <;> congr 1 <;> split_ifs <;> rfl

/-- One point's row of weights against the image is the bilinear sample times the point's weight. -/
theorem wt_sum (f : Fin 1024 → EReal) (x y a : EReal) (ha : 0 ≤ a) (hat' : a ≠ ⊤) :
    ∑ s : Fin 1024, wt x y a s * f s = bil f x y * a := by
  have e1 : ∀ (P : Prop) [Decidable P] (w : EReal), 0 ≤ w → 0 ≤ (if P then w else 0) := by
    intro P _ w h; split_ifs <;> simp [h]
  have n (u v : EReal) (hu : 0 ≤ u) (hv : 0 ≤ v) : 0 ≤ u * a * v := mul_nonneg (mul_nonneg hu ha) hv
  have step : ∀ s : Fin 1024, wt x y a s * f s = _ := fun s => by
    rw [wt_split x y a ha hat' s,
      EReal.right_distrib_of_nonneg
        (add_nonneg (e1 _ _ (n _ _ (wlo_nonneg y) (wlo_nonneg x))) (e1 _ _ (n _ _ (wlo_nonneg y) (whi_nonneg x))))
        (add_nonneg (e1 _ _ (n _ _ (whi_nonneg y) (wlo_nonneg x))) (e1 _ _ (n _ _ (whi_nonneg y) (whi_nonneg x)))),
      EReal.right_distrib_of_nonneg (e1 _ _ (n _ _ (wlo_nonneg y) (wlo_nonneg x))) (e1 _ _ (n _ _ (wlo_nonneg y) (whi_nonneg x))),
      EReal.right_distrib_of_nonneg (e1 _ _ (n _ _ (whi_nonneg y) (wlo_nonneg x))) (e1 _ _ (n _ _ (whi_nonneg y) (whi_nonneg x)))]
  rw [Finset.sum_congr rfl fun s _ => step s]
  simp only [Finset.sum_add_distrib, sum_one]
  unfold bil
  rw [EReal.right_distrib_of_nonneg_of_ne_top ha hat', EReal.right_distrib_of_nonneg_of_ne_top ha hat',
    EReal.right_distrib_of_nonneg_of_ne_top ha hat']
  have sw : ∀ u v g : EReal, u * a * v * g = g * (v * u) * a := fun u v g => by
    rw [mul_right_comm u a v, mul_right_comm (u * v) a g, mul_comm (u * v) g, mul_comm u v]
  rw [sw, sw, sw, sw, ← add_assoc]

/-- The rows of four points added up, against the image: the four samples, each times its point's weight. -/
theorem row_sum (f : Fin 1024 → EReal) (x y a : Fin 4 → EReal) (ha : ∀ p, 0 ≤ a p) (hat' : ∀ p, a p ≠ ⊤) :
    ∑ s : Fin 1024, (wt (x 0) (y 0) (a 0) s + wt (x 1) (y 1) (a 1) s + wt (x 2) (y 2) (a 2) s + wt (x 3) (y 3) (a 3) s) * f s
      = ∑ p, bil f (x p) (y p) * a p := by
  have n (p : Fin 4) (s : Fin 1024) : 0 ≤ wt (x p) (y p) (a p) s := wt_nonneg _ _ _ (ha p) s
  have step : ∀ s : Fin 1024, (wt (x 0) (y 0) (a 0) s + wt (x 1) (y 1) (a 1) s + wt (x 2) (y 2) (a 2) s + wt (x 3) (y 3) (a 3) s) * f s
      = wt (x 0) (y 0) (a 0) s * f s + wt (x 1) (y 1) (a 1) s * f s + wt (x 2) (y 2) (a 2) s * f s
        + wt (x 3) (y 3) (a 3) s * f s := fun s => by
    rw [EReal.right_distrib_of_nonneg (add_nonneg (add_nonneg (n 0 s) (n 1 s)) (n 2 s)) (n 3 s),
      EReal.right_distrib_of_nonneg (add_nonneg (n 0 s) (n 1 s)) (n 2 s), EReal.right_distrib_of_nonneg (n 0 s) (n 1 s)]
  rw [Finset.sum_congr rfl fun s _ => step s]
  simp only [Finset.sum_add_distrib]
  rw [wt_sum f _ _ _ (ha 0) (hat' 0), wt_sum f _ _ _ (ha 1) (hat' 1), wt_sum f _ _ _ (ha 2) (hat' 2),
    wt_sum f _ _ _ (ha 3) (hat' 3), Fin.sum_univ_four]

/-- One cell read by the reference: masked, then weighed. -/
theorem tap (g vx vy wx wy : EReal) : g * (vx * vy) * (wx * wy) = g * ((wx * vx) * (wy * vy)) := by
  rw [mul_assoc, mul_mul_mul_comm, mul_comm vx wx, mul_comm vy wy]

end Cert.Sample
-- ==== Proof.Spec.lean ====
module

public import proofs.«01_k».proof.Proof.Sample

/-! The attention layer as plain mathematics over the extended reals, for one image of 32 × 32 cells.

Both programs are shown to compute `out` of the same inputs, the kernel block by block and the reference as a whole. -/

@[expose] public section

noncomputable section

namespace Cert.Spec

open Idealize.ShloMosaic

/-- The kernel's pixel coordinate: the reference point plus a 32nd of the offset, times 32, less a half. -/
def pixE (r o : EReal) : EReal := (r + o * ((1 / 32 : ℝ) : EReal)) * ((32 : ℝ) : EReal) - ((1 / 2 : ℝ) : EReal)

/-- The position table of position `n` and channel `k`, from the table `L` of 32 rows of 96 pairs: the pair of channels
`4i`, `4i+1` comes from the position's column, the next pair from its row. -/
def pe (L : Fin 6144 → EReal) (n : Fin 1024) (k : Fin 384) : EReal :=
  if h : k.val % 4 < 2 then L ⟨(n.val % 32) * 192 + (k.val / 4) * 2 + k.val % 4, by omega⟩
  else L ⟨(n.val / 32) * 192 + (k.val / 4) * 2 + (k.val % 4 - 2), by omega⟩

/-- The softmax of four logits. -/
def soft (l : Fin 4 → EReal) (p : Fin 4) : EReal :=
  Ideal.div (Ideal.exp (l p - Finset.fold max ⊥ l Finset.univ)) (∑ i, Ideal.exp (l i - Finset.fold max ⊥ l Finset.univ))

/-- An affine map of a row: the products with one row of the matrix summed, and the bias. -/
def lin {k : Nat} (q : Fin 1024 → Fin 384 → EReal) (W : Fin k → Fin 384 → EReal) (b : Fin k → EReal) (n : Fin 1024) (j : Fin k) : EReal :=
  (∑ c, q n c * W j c) + b j

/-- The logits of one head at one position. -/
def logits (lg : Fin 1024 → Fin 32 → EReal) (n : Fin 1024) (h : Fin 8) (p : Fin 4) : EReal := lg n ⟨4 * h.val + p.val, by omega⟩

/-- What one head samples at one position in one channel: its four samples, each times its attention weight. -/
def samp (r : Fin 1024 → Fin 2 → EReal) (off : Fin 1024 → Fin 64 → EReal) (lg : Fin 1024 → Fin 32 → EReal)
    (v : Fin 1024 → Fin 384 → EReal) (n : Fin 1024) (h : Fin 8) (d : Fin 48) : EReal :=
  ∑ p : Fin 4, Sample.bil (fun s => v s ⟨48 * h.val + d.val, by omega⟩)
      (pixE (r n 0) (off n ⟨8 * h.val + 2 * p.val, by omega⟩)) (pixE (r n 1) (off n ⟨8 * h.val + 2 * p.val + 1, by omega⟩))
    * soft (logits lg n h) p

/-- The output at one position in one channel: the heads' samples projected, the bias, and twice the query. -/
def out (q : Fin 1024 → Fin 384 → EReal) (r : Fin 1024 → Fin 2 → EReal) (off : Fin 1024 → Fin 64 → EReal)
    (lg : Fin 1024 → Fin 32 → EReal) (v : Fin 1024 → Fin 384 → EReal) (Wp : Fin 384 → Fin 384 → EReal) (bp : Fin 384 → EReal)
    (n : Fin 1024) (j : Fin 384) : EReal :=
  (∑ h : Fin 8, ∑ d : Fin 48, samp r off lg v n h d * Wp j ⟨48 * h.val + d.val, by omega⟩) + bp j + (q n j + q n j)

/-- One image as rows of positions. -/
def rows (x : Fin 384 → Fin 32 → Fin 32 → EReal) (n : Fin 1024) (c : Fin 384) : EReal :=
  x c ⟨n.val / 32, by omega⟩ ⟨n.val % 32, by omega⟩

/-- One image's query rows with the position table added. -/
def query (T : Fin 6144 → EReal) (x : Fin 384 → Fin 32 → Fin 32 → EReal) (n : Fin 1024) (c : Fin 384) : EReal :=
  rows x n c + pe T n c

/-- The reference points, from the table of 1024 pairs. -/
def refs (R : Fin 2048 → EReal) (n : Fin 1024) (a : Fin 2) : EReal := R ⟨2 * n.val + a.val, by omega⟩

/-- The whole layer for one image: position table, reference points, query, value, then weights and biases of the value
projection, the offsets, the logits and the output projection. -/
def layer (T : Fin 6144 → EReal) (R : Fin 2048 → EReal) (q v : Fin 384 → Fin 32 → Fin 32 → EReal)
    (wv : Fin 384 → Fin 384 → EReal) (bv : Fin 384 → EReal) (wo : Fin 64 → Fin 384 → EReal) (bo : Fin 64 → EReal)
    (wa : Fin 32 → Fin 384 → EReal) (ba : Fin 32 → EReal) (wp : Fin 384 → Fin 384 → EReal) (bp : Fin 384 → EReal) :
    Fin 1024 → Fin 384 → EReal :=
  out (query T q) (refs R) (lin (query T q) wo bo) (lin (query T q) wa ba) (lin (rows v) wv bv) wp bp

/-- The exponential of a real is a positive real. -/
theorem exp_real (x : ℝ) : Ideal.exp (x : EReal) = ((Real.exp x : ℝ) : EReal) := rfl

/-- The largest of four reals is one of the reals. -/
theorem max_real (l : Fin 4 → ℝ) : ∃ m : ℝ, Finset.fold max (⊥ : EReal) (fun i => (l i : EReal)) Finset.univ = m := by
  refine ⟨max (l 0) (max (l 1) (max (l 2) (l 3))), ?_⟩
  rw [show (Finset.univ : Finset (Fin 4)) = {0, 1, 2, 3} from rfl]
  have c : ∀ a b : ℝ, ((max a b : ℝ) : EReal) = max (a : EReal) b := fun a b => EReal.coe_strictMono.monotone.map_max
  simp [Finset.fold_insert, c]

/-- With real logits the softmax is a nonnegative real. -/
theorem soft_real (l : Fin 4 → EReal) (hl : ∀ i, ∃ x : ℝ, l i = x) (p : Fin 4) : 0 ≤ soft l p ∧ soft l p ≠ ⊤ := by
  choose x hx using hl
  obtain rfl : l = fun i => (x i : EReal) := funext hx
  obtain ⟨m, hm⟩ := max_real x
  unfold soft
  rw [hm]
  have e : ∀ i, Ideal.exp ((x i : EReal) - (m : EReal)) = ((Real.exp (x i - m) : ℝ) : EReal) := fun i => exp_real (x i - m)
  simp only [e]
  have s : (∑ i : Fin 4, ((Real.exp (x i - m) : ℝ) : EReal)) = ((∑ i : Fin 4, Real.exp (x i - m) : ℝ) : EReal) := by
    simp only [Fin.sum_univ_four, EReal.coe_add]
  have pos : 0 < ∑ i : Fin 4, Real.exp (x i - m) := by
    rw [Fin.sum_univ_four]
    have := Real.exp_pos (x 0 - m)
    have := Real.exp_pos (x 1 - m)
    have := Real.exp_pos (x 2 - m)
    have := Real.exp_pos (x 3 - m)
    positivity
  rw [s]
  generalize (∑ i : Fin 4, Real.exp (x i - m)) = y at pos
  have h0 : ((y : ℝ) : EReal) ≠ 0 := by
    intro h; rw [EReal.coe_eq_zero] at h; exact pos.ne' h
  unfold Ideal.div
  rw [if_neg h0, ← EReal.coe_inv, ← EReal.coe_mul]
  exact ⟨EReal.coe_nonneg.2 (mul_nonneg (Real.exp_pos _).le (inv_nonneg.2 pos.le)), EReal.coe_ne_top _⟩

end Cert.Spec
-- ==== Proof.KernelPoint.lean ====
module

public import proofs.«01_k».proof.Proof.KernelDefs
public import proofs.«01_k».proof.Proof.Consts
public import proofs.«01_k».proof.Proof.Spec
public import Idealize.ShloMosaic.Lib.Pointwise
public import Idealize.ShloMosaic.Lib.Pipeline.Value

/-! The kernel's block, entry by entry. -/

@[expose] public section

set_option maxRecDepth 16384

noncomputable section

namespace Cert.KernelIdeal.Block

open Idealize.ShloMosaic Cert.KernelIdeal Cert.KernelIdeal.Gen

/-- The pixel coordinate of one position. -/
theorem pix_apply (r o : FVec Ideal S1024x1 .f32) (n : Fin 1024) :
    pix r o (ix2 n 0) = Spec.pixE (r (ix2 n 0)) (o (ix2 n 0)) := by
  pointwise [pix]
  rw [Consts.c32nd, Consts.c32, Consts.chalf]
  rfl

/-- A word of one bit, widened and read as a number. -/
theorem bit_value (P Q : Prop) [Decidable P] [Decidable Q] :
    FloatOps.sitofp (F := Ideal) .f32 (BitVec.setWidth 32 (IntOp.andi (BitVec.ofBool (decide P)) (BitVec.ofBool (decide Q))))
      = if P ∧ Q then (1 : EReal) else 0 := by
  have h1 : FloatOps.sitofp (F := Ideal) .f32 1#32 = 1 := by
    show (((1#32 : BitVec 32).toInt : ℝ) : EReal) = 1
    simp
  have h0 : FloatOps.sitofp (F := Ideal) .f32 0#32 = 0 := by
    show (((0#32 : BitVec 32).toInt : ℝ) : EReal) = 0
    simp
  by_cases hP : P <;> by_cases hQ : Q <;> simp [hP, hQ, IntOp.andi, h0, h1]

/-- Whether the lower cell lies in the image, as 1 or 0. -/
theorem lowIn_apply (f : FVec Ideal S1024x1 .f32) (n : Fin 1024) :
    lowIn f (ix2 n 0) = Sample.lowIn (f (ix2 n 0)) := by
  pointwise [lowIn]
  rw [Consts.c31, bit_value]
  rfl

/-- Whether the upper cell lies in the image, as 1 or 0. -/
theorem highIn_apply (f : FVec Ideal S1024x1 .f32) (n : Fin 1024) :
    highIn f (ix2 n 0) = Sample.highIn (f (ix2 n 0)) := by
  pointwise [highIn]
  rw [Consts.c30, Consts.cm1, bit_value]
  rfl

/-- The cell number as a word. -/
theorem cell_apply (f : FVec Ideal S1024x1 .f32) (n : Fin 1024) :
    cell f (ix2 n 0) = BitVec.ofNat 32 (Sample.cell (f (ix2 n 0))).val := by
  pointwise [cell]
  rw [Consts.c31, ← Sample.cellW_eq]
  rfl

/-- A row that holds the weight `w` at the cell `j` and 0 at every other cell. -/
theorem oneHot_apply (c : IVec S1024x1 32) (w : FVec Ideal S1024x1 .f32) (n : Fin 1024) (k : Fin 32) (j : Fin 32)
    (h : c (ix2 n 0) = BitVec.ofNat 32 j.val) :
    oneHot c w (ix2 n k) = if k = j then w (ix2 n 0) else 0 := by
  pointwise [oneHot]
  rw [h]
  have e : (BitVec.ofNat 32 k.val = BitVec.ofNat 32 j.val) ↔ k = j := by
    constructor
    · intro h
      have := congrArg BitVec.toNat h
      simp only [BitVec.toNat_ofNat] at this
      apply Fin.ext
      omega
    · rintro rfl; rfl
  by_cases hk : k = j
  · subst hk; simp [Scalar.select, IntOp.cmpi]
  · have := mt e.1 hk
    simp [Scalar.select, IntOp.cmpi, hk, this, beq_eq_false_iff_ne.2 this]

/-- The floor, entry by entry. -/
theorem floor_apply (x : FVec Ideal S1024x1 .f32) (n : Fin 1024) :
    Idealize.ShloMosaic.floor x (ix2 n 0) = Sample.fl (x (ix2 n 0)) := rfl

/-- The interpolation weights along one axis. -/
theorem hat_apply (x : FVec Ideal S1024x1 .f32) (n : Fin 1024) (k : Fin 32) :
    hat x (ix2 n k) = Sample.hat (x (ix2 n 0)) k := by
  have h0 := oneHot_apply (cell (Idealize.ShloMosaic.floor x))
    (mulf (subf (broadcast S1024x1 (Scalar.ofBits .f32 0x3F800000#32)) (subf x (floor x))) (lowIn (floor x))) n k _ (cell_apply _ n)
  have h1 := oneHot_apply (cell (addf (floor x) (broadcast S1024x1 (Scalar.ofBits .f32 0x3F800000#32))))
      (mulf (subf x (floor x)) (highIn (floor x))) n k _ (cell_apply _ n)
  unfold hat
  rw [show ∀ a b : FVec Ideal S1024x32 .f32, addf a b (ix2 n k) = a (ix2 n k) + b (ix2 n k) from fun _ _ => rfl, h0, h1]
  unfold Sample.hat Sample.wlo Sample.whi
  pointwise
  rw [lowIn_apply, highIn_apply]
  rfl

/-- Every column repeated 32 times: column `s` is column `s / 32`. -/
theorem repeat32_apply (x : FVec Ideal S1024x32 .bf16) (n s : Fin 1024) :
    repeat32 x (ix2 n s) = x (ix2 n ⟨s.val / 32, by omega⟩) := by
  pointwise [repeat32]

/-- The array laid out 32 times: column `s` is column `s % 32`. -/
theorem tile32_apply (x : FVec Ideal S1024x32 .bf16) (n s : Fin 1024) :
    tile32 x (ix2 n s) = x (ix2 n ⟨s.val % 32, by omega⟩) := by
  exact concatenate_replicate_apply (s₁ := S1024x32) (t := S1024x1024) 1 32 x _ rfl (ix2 n s) _ rfl
    (fun b hb => by
      match b with
      | 0 => rfl
      | 1 => exact absurd rfl hb)

end Cert.KernelIdeal.Block
-- ==== Proof.KernelBlock.lean ====
module

public import proofs.«01_k».proof.Proof.KernelPoint
public import proofs.«01_k».proof.Proof.Gen.KernelIdeal.Frame
public import Idealize.ShloMosaic.Lib.Pipeline.ValueKit
public import Idealize.ShloMosaic.Lib.Pipeline.ReadBack

/-! The block that the kernel stores at one point of its grid, as one expression of the blocks that it reads. -/

@[expose] public section

set_option maxRecDepth 16384

noncomputable section

namespace Cert.KernelIdeal.Block

open Idealize.ShloMosaic Idealize.ShloMosaic.TcCoe Idealize.SL.Sem Cert.KernelIdeal Cert.KernelIdeal.Gen

variable (m : (ℓ : Loc nD τ sig) → Buf (Elt Ideal) ℓ)

/-- A head's 48 rows lie within the output projection. -/
theorem inb_rows (h : Fin 8) : ∀ a : Fin S384x384.rank, (![48 * h.val, 0] : Fin 2 → Nat) a + (![48, 384] : Fin 2 → Nat) a ≤ S384x384.size a := by
  revert h; decide

/-- The 48 rows of the output projection that belong to one head. -/
def headRows (wp : Vec Ideal S384x384 .f32) (h : Fin 8) : Vec Ideal S48x384 .f32 :=
  View.ld wp (Rect.unit ![48 * h.val, 0] ![48, 384] (inb_rows h))

/-- One of the two columns of the reference points. -/
def refCol (r : Vec Ideal S1024x2 .f32) : Fin 2 → Vec Ideal S1024x1 .f32
  | 0 => View.ld r (Rect.unit ![0, 0] ![1024, 1] inb_S1024x2_S1024x1_0_0)
  | 1 => View.ld r (Rect.unit ![0, 1] ![1024, 1] inb_S1024x2_S1024x1_0_1)

/-- The block that the body stores, from what it reads: the query block, the value block, the position table, the
reference points, and the four projections with their biases. -/
def block (q : FVec Ideal S1x1024x384 .f32) (v : FVec Ideal S1x1024x384 .f32) (pe : FVec Ideal S1024x384 .f32) (r : FVec Ideal S1024x2 .f32)
    (wv : FVec Ideal S384x384 .f32) (bv : FVec Ideal S1x384 .f32) (wo : FVec Ideal S384x64 .f32) (bo : FVec Ideal S1x64 .f32)
    (wa : FVec Ideal S384x32 .f32) (ba : FVec Ideal S1x32 .f32) (wp : FVec Ideal S384x384 .f32) (bp : FVec Ideal S1x384 .f32) :
    FVec Ideal S1x1024x384 .f32 :=
  combine (k0_pay2 q pe) (fun h => headOut
    (headMatrix (refCol r 0) (refCol r 1) (k0_pay4 q pe wo bo) (k0_pay5 q pe wa ba) h)
    (k0_pay3 v wv bv) h (headRows wp h)) bp

set_option maxHeartbeats 4000000 in
/-- What the body stores at one point of the grid is `block` of the blocks that it reads there. -/
theorem outs (c : Dev nD) (t : Fin cfg0.N) : outsAt0 m c t = block (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) := by
  funext y
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  unfold block combine
  refine congrFun (?_ : k0_pay1 _ _ _ = _) y
  unfold k0_pay1
  sl_kernel_rfl

end Cert.KernelIdeal.Block
-- ==== Proof.KernelValue.lean ====
module

public import proofs.«01_k».proof.Proof.KernelBlock
public import proofs.«01_k».proof.Proof.Spec

/-! The kernel's stored block, entry by entry, as the layer's mathematics. -/

@[expose] public section

set_option maxRecDepth 16384

noncomputable section

namespace Cert.KernelIdeal.Block

open Idealize.ShloMosaic Cert.KernelIdeal Cert.KernelIdeal.Gen

/-- One column of the reference points. -/
theorem refCol_zero (r : FVec Ideal S1024x2 .f32) (n : Fin 1024) : refCol r 0 (ix2 n 0) = r (ix2 n 0) := by
  show r _ = r _
  congr 1
  funext a
  match a with
  | 0 => apply Fin.ext; simp [Rect.unit]
  | 1 => rfl

/-- The second column of the reference points. -/
theorem refCol_one (r : FVec Ideal S1024x2 .f32) (n : Fin 1024) : refCol r 1 (ix2 n 0) = r (ix2 n 1) := by
  show r _ = r _
  congr 1
  funext a
  match a with
  | 0 => apply Fin.ext; simp [Rect.unit]
  | 1 => rfl

/-- An entry of a head's rows of the output projection. -/
theorem headRows_apply (w : FVec Ideal S384x384 .f32) (h : Fin 8) (d : Fin 48) (j : Fin 384) :
    headRows w h (ix2 d j) = w (ix2 ⟨48 * h.val + d.val, by omega⟩ j) := by
  show w _ = w _
  congr 1
  funext a
  match a with
  | 0 => apply Fin.ext; simp [Rect.unit]
  | 1 => apply Fin.ext; simp [Rect.unit]

/-- The attention weights are the softmax of the head's four logits. -/
theorem headWeights_apply (lg : FVec Ideal S1024x32 .f32) (h : Fin 8) (n : Fin 1024) (p : Fin 4) :
    headWeights lg h (ix2 n p) = Spec.soft (Spec.logits (fun n k => lg (ix2 n k)) n h) p := by
  pointwise [headWeights, weights]
  rw [Consts.cbot]
  rfl

/-- A point's row of the sampling matrix. -/
theorem headPoint_apply (rx ry : FVec Ideal S1024x1 .f32) (off : FVec Ideal S1024x64 .f32) (lg : FVec Ideal S1024x32 .f32)
    (h : Fin 8) (p : Fin 4) (n s : Fin 1024) :
    headPoint rx ry off lg h p (ix2 n s)
      = Sample.wt (Spec.pixE (rx (ix2 n 0)) (off (ix2 n ⟨8 * h.val + 2 * p.val, by omega⟩)))
          (Spec.pixE (ry (ix2 n 0)) (off (ix2 n ⟨8 * h.val + 2 * p.val + 1, by omega⟩)))
          (Spec.soft (Spec.logits (fun n k => lg (ix2 n k)) n h) p) s := by
  unfold headPoint point
  rw [show ∀ a b : FVec Ideal S1024x1024 .bf16, mulf a b (ix2 n s) = a (ix2 n s) * b (ix2 n s) from fun _ _ => rfl,
    repeat32_apply, tile32_apply]
  unfold Sample.wt
  rw [← headWeights_apply]
  pointwise [offCol]
  rw [hat_apply, hat_apply, pix_apply, pix_apply]
  pointwise [offCol]

/-- The head's sampling matrix: its four points' rows added up. -/
theorem headMatrix_apply (rx ry : FVec Ideal S1024x1 .f32) (off : FVec Ideal S1024x64 .f32) (lg : FVec Ideal S1024x32 .f32)
    (h : Fin 8) (n s : Fin 1024) :
    headMatrix rx ry off lg h (ix2 n s) = headPoint rx ry off lg h 0 (ix2 n s) + headPoint rx ry off lg h 1 (ix2 n s)
      + headPoint rx ry off lg h 2 (ix2 n s) + headPoint rx ry off lg h 3 (ix2 n s) := by
  pointwise [headMatrix, stored]

/-- A head's output: the sampling matrix times the head's values, times the head's rows of the output projection. -/
theorem headOut_apply (A : FVec Ideal S1024x1024 .bf16) (v : FVec Ideal S1024x384 .bf16) (h : Fin 8) (w : FVec Ideal S48x384 .f32)
    (n : Fin 1024) (j : Fin 384) :
    headOut A v h w (ix2 n j)
      = ∑ d : Fin 48, (∑ s : Fin 1024, A (ix2 n s) * v (ix2 s ⟨48 * h.val + d.val, by omega⟩)) * w (ix2 d j) := by
  pointwise [headOut]

/-- The stored entry: the heads added up, the bias, and twice the query. -/
theorem combine_apply (q : FVec Ideal S1024x384 .f32) (o : Fin 8 → FVec Ideal S1024x384 .f32) (b : FVec Ideal S1x384 .f32)
    (n : Fin 1024) (j : Fin 384) :
    combine q o b (ix3 0 n j) = (∑ h, o h (ix2 n j)) + b (ix2 0 j) + ((2 : ℝ) : EReal) * q (ix2 n j) := by
  pointwise [combine]
  rw [Consts.c2, Fin.sum_univ_eight]

/-- The query block with its position table. -/
theorem pay2_apply (q : FVec Ideal S1x1024x384 .f32) (pe : FVec Ideal S1024x384 .f32) (n : Fin 1024) (c : Fin 384) :
    k0_pay2 (F := Ideal) q pe (ix2 n c) = q (ix3 0 n c) + pe (ix2 n c) := by
  pointwise [k0_pay2]

/-- The projected value block. -/
theorem pay3_apply (v : FVec Ideal S1x1024x384 .f32) (w : FVec Ideal S384x384 .f32) (b : FVec Ideal S1x384 .f32)
    (n : Fin 1024) (j : Fin 384) :
    k0_pay3 (F := Ideal) v w b (ix2 n j) = Spec.lin (fun n c => v (ix3 0 n c)) (fun j c => w (ix2 c j)) (fun j => b (ix2 0 j)) n j := by
  pointwise [k0_pay3]
  rfl

/-- The offsets. -/
theorem pay4_apply (q : FVec Ideal S1x1024x384 .f32) (pe : FVec Ideal S1024x384 .f32) (w : FVec Ideal S384x64 .f32)
    (b : FVec Ideal S1x64 .f32) (n : Fin 1024) (j : Fin 64) :
    k0_pay4 (F := Ideal) q pe w b (ix2 n j) = Spec.lin (fun n c => q (ix3 0 n c) + pe (ix2 n c)) (fun j c => w (ix2 c j)) (fun j => b (ix2 0 j)) n j := by
  pointwise [k0_pay4, k0_pay2]
  rfl

/-- The logits. -/
theorem pay5_apply (q : FVec Ideal S1x1024x384 .f32) (pe : FVec Ideal S1024x384 .f32) (w : FVec Ideal S384x32 .f32)
    (b : FVec Ideal S1x32 .f32) (n : Fin 1024) (j : Fin 32) :
    k0_pay5 (F := Ideal) q pe w b (ix2 n j) = Spec.lin (fun n c => q (ix3 0 n c) + pe (ix2 n c)) (fun j c => w (ix2 c j)) (fun j => b (ix2 0 j)) n j := by
  pointwise [k0_pay5, k0_pay2]
  rfl

/-- Twice a real, as a product and as a sum. -/
theorem two_mul_real (x : EReal) (h : ∃ r : ℝ, x = r) : ((2 : ℝ) : EReal) * x = x + x := by
  obtain ⟨r, rfl⟩ := h
  rw [← EReal.coe_mul, ← EReal.coe_add, two_mul]

/-- The block that the body stores is the layer's output of what it reads, if the query with its table and the logits are real. -/
theorem block_apply (q : FVec Ideal S1x1024x384 .f32) (v : FVec Ideal S1x1024x384 .f32) (pe : FVec Ideal S1024x384 .f32) (r : FVec Ideal S1024x2 .f32)
    (wv : FVec Ideal S384x384 .f32) (bv : FVec Ideal S1x384 .f32) (wo : FVec Ideal S384x64 .f32) (bo : FVec Ideal S1x64 .f32)
    (wa : FVec Ideal S384x32 .f32) (ba : FVec Ideal S1x32 .f32) (wp : FVec Ideal S384x384 .f32) (bp : FVec Ideal S1x384 .f32)
    (qk : Fin 1024 → Fin 384 → EReal) (hqk : ∀ n c, q (ix3 0 n c) + pe (ix2 n c) = qk n c)
    (hq : ∀ n c, ∃ x : ℝ, qk n c = x)
    (hl : ∀ n k, ∃ x : ℝ, Spec.lin qk (fun j c => wa (ix2 c j)) (fun j => ba (ix2 0 j)) n k = x)
    (n : Fin 1024) (j : Fin 384) :
    block q v pe r wv bv wo bo wa ba wp bp (ix3 0 n j)
      = Spec.out qk (fun n a => r (ix2 n a)) (Spec.lin qk (fun j c => wo (ix2 c j)) (fun j => bo (ix2 0 j)))
          (Spec.lin qk (fun j c => wa (ix2 c j)) (fun j => ba (ix2 0 j)))
          (Spec.lin (fun n c => v (ix3 0 n c)) (fun j c => wv (ix2 c j)) (fun j => bv (ix2 0 j)))
          (fun j c => wp (ix2 c j)) (fun j => bp (ix2 0 j)) n j := by
  obtain rfl : (fun n c => q (ix3 0 n c) + pe (ix2 n c)) = qk := funext fun n => funext fun c => hqk n c
  unfold block
  rw [combine_apply, pay2_apply, two_mul_real _ (hq n j)]
  unfold Spec.out
  congr 2
  refine Finset.sum_congr rfl fun h _ => ?_
  rw [headOut_apply]
  refine Finset.sum_congr rfl fun d _ => ?_
  rw [headRows_apply]
  congr 1
  unfold Spec.samp
  simp only [headMatrix_apply, headPoint_apply, pay3_apply, pay4_apply, pay5_apply, refCol_zero, refCol_one]
  refine Sample.row_sum
    (fun s => Spec.lin (fun n c => v (ix3 0 n c)) (fun j c => wv (ix2 c j)) (fun j => bv (ix2 0 j)) s ⟨48 * h.val + d.val, by omega⟩)
    (fun p => Spec.pixE (r (ix2 n 0)) (Spec.lin (fun n c => q (ix3 0 n c) + pe (ix2 n c)) (fun j c => wo (ix2 c j)) (fun j => bo (ix2 0 j)) n ⟨8 * h.val + 2 * p.val, by omega⟩))
    (fun p => Spec.pixE (r (ix2 n 1)) (Spec.lin (fun n c => q (ix3 0 n c) + pe (ix2 n c)) (fun j c => wo (ix2 c j)) (fun j => bo (ix2 0 j)) n ⟨8 * h.val + 2 * p.val + 1, by omega⟩))
    (fun p => Spec.soft (Spec.logits (Spec.lin (fun n c => q (ix3 0 n c) + pe (ix2 n c)) (fun j c => wa (ix2 c j)) (fun j => ba (ix2 0 j))) n h) p)
    (fun p => (Spec.soft_real _ (fun i => hl n _) p).1) (fun p => (Spec.soft_real _ (fun i => hl n _) p).2)

end Cert.KernelIdeal.Block
-- ==== Proof.KernelInputs.lean ====
module

public import proofs.«01_k».proof.Proof.KernelValue
public import Idealize.ShloMosaic.Lib.StableHlo.ReadAt

/-! What the kernel reads: each of the call's operands, entry by entry, from the program's arguments. -/

@[expose] public section

set_option maxRecDepth 16384

noncomputable section

namespace Cert.KernelIdeal.Block

open Idealize.ShloMosaic Idealize.ShloMosaic.TcCoe Idealize.SL.Sem Cert.KernelIdeal Cert.KernelIdeal.Gen

variable (m : (ℓ : Loc nD τ sig) → Buf (Elt Ideal) ℓ)

/-- Every window's block index at every point. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0, 0] :=
  (by decide +kernel : ∀ t : Fin grid0.N, _)

/-- The grid has one point for each of the 8 images. -/
theorem t_lt (t : Fin cfg0.N) : t.val < 8 := t.isLt

/-- The place of an entry of the pair table in row-major order. -/
theorem pos3 (a : Fin 32) (b : Fin 96) (d : Fin 2) (i : Fin 6144) (h : i.val = a.val * 192 + b.val * 2 + d.val) :
    S32x96x2.rowMajor (ix3 a b d) = i := by
  apply Fin.ext
  rw [h, rowMajor_val3 _ 192 2 rfl rfl]
  rfl

/-- The place of an entry of the reference points in row-major order. -/
theorem pos2 (n : Fin 1024) (k : Fin 2) (i : Fin 2048) (h : i.val = 2 * n.val + k.val) : S1024x2.rowMajor (ix2 n k) = i := by
  apply Fin.ext
  rw [h, rowMajor_val2 _ 2 rfl]
  show n.val * 2 + k.val = 2 * n.val + k.val
  omega

/-- The query operand: positions by channels of the query image. -/
theorem V_q (c : Dev nD) (b : Fin 8) (n : Fin 1024) (k : Fin 384) :
    V m c main_call0_v1 (ix3 b n k) = m ((c.tc : Thread nD τ).loc main_arg0)
      (ix4 b k ⟨n.val / 32, by omega⟩ ⟨n.val % 32, by omega⟩) := by
  show StableHlo.after hostOps0 (fun b => m (c, b)) (Proc.tc.devRef _) _ = _
  after_reads_at

/-- The position operand: the position table, read from its distinct entries. -/
theorem V_pe (c : Dev nD)  (n : Fin 1024) (k : Fin 384) :
    V m c main_call0_v9 (ix2 n k) = Spec.pe (fun i => Ideal.ofBits .f32 (lit0 i)) n k := by
  show StableHlo.after hostOps0 (fun b => m (c, b)) (Proc.tc.devRef _) _ = _
  after_reads_at
  unfold Spec.pe
  by_cases h : k.val % 4 < 2
  · rw [dif_pos h, dif_pos h]
    after_reads_at
    exact congrArg (fun i => Ideal.ofBits .f32 (lit0 i)) (pos3 _ _ _ _ rfl)
  · rw [dif_neg h, dif_neg h]
    after_reads_at
    exact congrArg (fun i => Ideal.ofBits .f32 (lit0 i)) (pos3 _ _ _ _ rfl)

/-- The reference-point operand: the table of reference points. -/
theorem V_r (c : Dev nD)  (n : Fin 1024) (k : Fin 2) :
    V m c main_call0_cst_0 (ix2 n k) = Ideal.ofBits .f32 (lit1 ⟨2 * n.val + k.val, by omega⟩) := by
  show StableHlo.after hostOps0 (fun b => m (c, b)) (Proc.tc.devRef _) _ = _
  after_reads_at
  exact congrArg (fun i => Ideal.ofBits .f32 (lit1 i)) (pos2 _ _ _ rfl)

/-- The value operand: positions by channels of the value image. -/
theorem V_v (c : Dev nD) (b : Fin 8) (n : Fin 1024) (k : Fin 384) :
    V m c main_call0_v3 (ix3 b n k) = m ((c.tc : Thread nD τ).loc main_arg1)
      (ix4 b k ⟨n.val / 32, by omega⟩ ⟨n.val % 32, by omega⟩) := by
  show StableHlo.after hostOps0 (fun b => m (c, b)) (Proc.tc.devRef _) _ = _
  after_reads_at

/-- The value projection is passed transposed. -/
theorem V_wv (c : Dev nD) (k j : Fin 384) :
    V m c main_call0_v10 (ix2 k j) = m ((c.tc : Thread nD τ).loc main_arg2) (ix2 j k) := by
  show StableHlo.after hostOps0 (fun b => m (c, b)) (Proc.tc.devRef _) _ = _
  after_reads_at

/-- The value projection's bias is passed as a row. -/
theorem V_bv (c : Dev nD) (j : Fin 384) :
    V m c main_call0_v11 (ix2 0 j) = m ((c.tc : Thread nD τ).loc main_arg3) (ix1 j) := by
  show StableHlo.after hostOps0 (fun b => m (c, b)) (Proc.tc.devRef _) _ = _
  after_reads_at

/-- The offsets' projection is passed transposed. -/
theorem V_wo (c : Dev nD) (k : Fin 384) (j : Fin 64) :
    V m c main_call0_v12 (ix2 k j) = m ((c.tc : Thread nD τ).loc main_arg4) (ix2 j k) := by
  show StableHlo.after hostOps0 (fun b => m (c, b)) (Proc.tc.devRef _) _ = _
  after_reads_at

/-- The offsets' bias is passed as a row. -/
theorem V_bo (c : Dev nD) (j : Fin 64) :
    V m c main_call0_v13 (ix2 0 j) = m ((c.tc : Thread nD τ).loc main_arg5) (ix1 j) := by
  show StableHlo.after hostOps0 (fun b => m (c, b)) (Proc.tc.devRef _) _ = _
  after_reads_at

/-- The logits' projection is passed transposed. -/
theorem V_wa (c : Dev nD) (k : Fin 384) (j : Fin 32) :
    V m c main_call0_v14 (ix2 k j) = m ((c.tc : Thread nD τ).loc main_arg6) (ix2 j k) := by
  show StableHlo.after hostOps0 (fun b => m (c, b)) (Proc.tc.devRef _) _ = _
  after_reads_at

/-- The logits' bias is passed as a row. -/
theorem V_ba (c : Dev nD) (j : Fin 32) :
    V m c main_call0_v15 (ix2 0 j) = m ((c.tc : Thread nD τ).loc main_arg7) (ix1 j) := by
  show StableHlo.after hostOps0 (fun b => m (c, b)) (Proc.tc.devRef _) _ = _
  after_reads_at

/-- The output projection is passed transposed. -/
theorem V_wp (c : Dev nD) (k j : Fin 384) :
    V m c main_call0_v16 (ix2 k j) = m ((c.tc : Thread nD τ).loc main_arg8) (ix2 j k) := by
  show StableHlo.after hostOps0 (fun b => m (c, b)) (Proc.tc.devRef _) _ = _
  after_reads_at

/-- The output projection's bias is passed as a row. -/
theorem V_bp (c : Dev nD) (j : Fin 384) :
    V m c main_call0_v17 (ix2 0 j) = m ((c.tc : Thread nD τ).loc main_arg9) (ix1 j) := by
  show StableHlo.after hostOps0 (fun b => m (c, b)) (Proc.tc.devRef _) _ = _
  after_reads_at

/-- Point `t` reads image `t` of the query operand. -/
theorem in_q (c : Dev nD) (t : Fin cfg0.N) (n : Fin 1024) (k : Fin 384) :
    iblk m c 0 t (ix3 0 n k) = V m c main_call0_v1 (ix3 t n k) := by blk_ext [iblk, idx t]

/-- Point `t` reads image `t` of the value operand. -/
theorem in_v (c : Dev nD) (t : Fin cfg0.N) (n : Fin 1024) (k : Fin 384) :
    iblk m c 1 t (ix3 0 n k) = V m c main_call0_v3 (ix3 t n k) := by blk_ext [iblk, idx t]

/-- Every point reads the whole position table. -/
theorem in_pe (c : Dev nD) (t : Fin cfg0.N) : iblk m c 2 t = V m c main_call0_v9 := by blk_ext! [iblk, idx t]

/-- Every point reads all reference points. -/
theorem in_r (c : Dev nD) (t : Fin cfg0.N) : iblk m c 3 t = V m c main_call0_cst_0 := by blk_ext! [iblk, idx t]

/-- Every point reads the whole value projection. -/
theorem in_wv (c : Dev nD) (t : Fin cfg0.N) : iblk m c 4 t = V m c main_call0_v10 := by blk_ext! [iblk, idx t]

/-- Every point reads the value projection's whole bias. -/
theorem in_bv (c : Dev nD) (t : Fin cfg0.N) : iblk m c 5 t = V m c main_call0_v11 := by blk_ext! [iblk, idx t]

/-- Every point reads the whole projection of the offsets. -/
theorem in_wo (c : Dev nD) (t : Fin cfg0.N) : iblk m c 6 t = V m c main_call0_v12 := by blk_ext! [iblk, idx t]

/-- Every point reads the offsets' whole bias. -/
theorem in_bo (c : Dev nD) (t : Fin cfg0.N) : iblk m c 7 t = V m c main_call0_v13 := by blk_ext! [iblk, idx t]

/-- Every point reads the whole projection of the logits. -/
theorem in_wa (c : Dev nD) (t : Fin cfg0.N) : iblk m c 8 t = V m c main_call0_v14 := by blk_ext! [iblk, idx t]

/-- Every point reads the logits' whole bias. -/
theorem in_ba (c : Dev nD) (t : Fin cfg0.N) : iblk m c 9 t = V m c main_call0_v15 := by blk_ext! [iblk, idx t]

/-- Every point reads the whole output projection. -/
theorem in_wp (c : Dev nD) (t : Fin cfg0.N) : iblk m c 10 t = V m c main_call0_v16 := by blk_ext! [iblk, idx t]

/-- Every point reads the output projection's whole bias. -/
theorem in_bp (c : Dev nD) (t : Fin cfg0.N) : iblk m c 11 t = V m c main_call0_v17 := by blk_ext! [iblk, idx t]

end Cert.KernelIdeal.Block
-- ==== Proof.KernelRun.lean ====
module

public import proofs.«01_k».proof.Proof.KernelInputs

/-! What the kernel program leaves in its result array. -/

@[expose] public section

set_option maxRecDepth 16384

noncomputable section

namespace Cert.KernelIdeal.Block

open Idealize.ShloMosaic Idealize.ShloMosaic.TcCoe Idealize.SL.Sem Cert.KernelIdeal Cert.KernelIdeal.Gen

variable (m : (ℓ : Loc nD τ sig) → Buf (Elt Ideal) ℓ)

/-- The position table's entries. -/
def T (i : Fin 6144) : EReal := Ideal.ofBits .f32 (lit0 i)

/-- The reference points' entries. -/
def R (i : Fin 2048) : EReal := Ideal.ofBits .f32 (lit1 i)

/-- One image's query rows with the position table. -/
def qk (c : Dev nD) (b : Fin 8) : Fin 1024 → Fin 384 → EReal :=
  Spec.query T (fun k y x => m ((c.tc : Thread nD τ).loc main_arg0) (ix4 b k y x))

/-- One image's logits. -/
def lg (c : Dev nD) (b : Fin 8) : Fin 1024 → Fin 32 → EReal :=
  Spec.lin (qk m c b) (fun j k => m ((c.tc : Thread nD τ).loc main_arg6) (ix2 j k)) (fun j => m ((c.tc : Thread nD τ).loc main_arg7) (ix1 j))

/-- The layer's output, of the arrays in memory. -/
def layer (c : Dev nD) (b : Fin 8) : Fin 1024 → Fin 384 → EReal :=
  Spec.layer T R (fun k y x => m ((c.tc : Thread nD τ).loc main_arg0) (ix4 b k y x))
    (fun k y x => m ((c.tc : Thread nD τ).loc main_arg1) (ix4 b k y x))
    (fun j k => m ((c.tc : Thread nD τ).loc main_arg2) (ix2 j k)) (fun j => m ((c.tc : Thread nD τ).loc main_arg3) (ix1 j))
    (fun j k => m ((c.tc : Thread nD τ).loc main_arg4) (ix2 j k)) (fun j => m ((c.tc : Thread nD τ).loc main_arg5) (ix1 j))
    (fun j k => m ((c.tc : Thread nD τ).loc main_arg6) (ix2 j k)) (fun j => m ((c.tc : Thread nD τ).loc main_arg7) (ix1 j))
    (fun j k => m ((c.tc : Thread nD τ).loc main_arg8) (ix2 j k)) (fun j => m ((c.tc : Thread nD τ).loc main_arg9) (ix1 j))

/-- The block stored at point `t` is image `t`'s output. -/
theorem stored_block (c : Dev nD) (t : Fin cfg0.N) (hq : ∀ b n k, ∃ x : ℝ, qk m c b n k = x) (hl : ∀ b n k, ∃ x : ℝ, lg m c b n k = x)
    (n : Fin 1024) (j : Fin 384) : outsAt0 m c t (ix3 0 n j) = layer m c t n j := by
  have ewo : (fun (j : Fin 64) (k : Fin 384) => V m c main_call0_v12 (ix2 k j)) = fun j k => m ((c.tc : Thread nD τ).loc main_arg4) (ix2 j k) :=
    funext fun j => funext fun k => V_wo m c k j
  have ebo : (fun (j : Fin 64) => V m c main_call0_v13 (ix2 0 j)) = fun j => m ((c.tc : Thread nD τ).loc main_arg5) (ix1 j) :=
    funext fun j => V_bo m c j
  have ewa : (fun (j : Fin 32) (k : Fin 384) => V m c main_call0_v14 (ix2 k j)) = fun j k => m ((c.tc : Thread nD τ).loc main_arg6) (ix2 j k) :=
    funext fun j => funext fun k => V_wa m c k j
  have eba : (fun (j : Fin 32) => V m c main_call0_v15 (ix2 0 j)) = fun j => m ((c.tc : Thread nD τ).loc main_arg7) (ix1 j) :=
    funext fun j => V_ba m c j
  have ewv : (fun (j : Fin 384) (k : Fin 384) => V m c main_call0_v10 (ix2 k j)) = fun j k => m ((c.tc : Thread nD τ).loc main_arg2) (ix2 j k) :=
    funext fun j => funext fun k => V_wv m c k j
  have ebv : (fun (j : Fin 384) => V m c main_call0_v11 (ix2 0 j)) = fun j => m ((c.tc : Thread nD τ).loc main_arg3) (ix1 j) :=
    funext fun j => V_bv m c j
  have ewp : (fun (j : Fin 384) (k : Fin 384) => V m c main_call0_v16 (ix2 k j)) = fun j k => m ((c.tc : Thread nD τ).loc main_arg8) (ix2 j k) :=
    funext fun j => funext fun k => V_wp m c k j
  have ebp : (fun (j : Fin 384) => V m c main_call0_v17 (ix2 0 j)) = fun j => m ((c.tc : Thread nD τ).loc main_arg9) (ix1 j) :=
    funext fun j => V_bp m c j
  have ev : (fun (n : Fin 1024) (k : Fin 384) => iblk m c 1 t (ix3 0 n k)) = Spec.rows (fun k y x => m ((c.tc : Thread nD τ).loc main_arg1) (ix4 t k y x)) :=
    funext fun n => funext fun k => (in_v m c t n k).trans (V_v m c t n k)
  have er : (fun (n : Fin 1024) (k : Fin 2) => V m c main_call0_cst_0 (ix2 n k)) = Spec.refs R :=
    funext fun n => funext fun k => V_r m c n k
  have h := block_apply (iblk m c 0 t) (iblk m c 1 t) (V m c main_call0_v9) (V m c main_call0_cst_0) (V m c main_call0_v10) (V m c main_call0_v11)
    (V m c main_call0_v12) (V m c main_call0_v13) (V m c main_call0_v14) (V m c main_call0_v15) (V m c main_call0_v16) (V m c main_call0_v17)
    (qk m c t) (fun n k => congrArg₂ (fun a b : EReal => a + b) ((in_q m c t n k).trans (V_q m c t n k)) (V_pe m c n k)) (hq t)
    (fun n k => by rw [ewa, eba]; exact hl t n k) n j
  rw [outs, in_pe, in_r, in_wv, in_bv, in_wo, in_bo, in_wa, in_ba, in_wp, in_bp]
  refine h.trans ?_
  rw [ewo, ebo, ewa, eba, ewv, ebv, ewp, ebp, ev, er]
  rfl

/-- The layer's output as an array of images, positions and channels. -/
def target (c : Dev nD) : FVec Ideal S8x1024x384 .f32 := fun i => layer m c (i 0) (i 1) (i 2)

/-- An entry of the output array. -/
theorem target_apply (c : Dev nD) (b : Fin 8) (n : Fin 1024) (j : Fin 384) : target m c (ix3 b n j) = layer m c b n j := rfl

/-- Where an entry of the block that point `t` writes back lies in the result array. -/
theorem emb_out (t : Fin cfg0.N) (n : Fin 1024) (j : Fin 384) :
    ((View.whole main_call0_v18).slice (win0_12.rect t)).emb (ix3 0 n j) = ix3 t n j := by blk_ext [idx t]

/-- The result array of the pipeline after the run. -/
theorem final (c : Dev nD) (hq : ∀ b n k, ∃ x : ℝ, qk m c b n k = x) (hl : ∀ b n k, ∃ x : ℝ, lg m c b n k = x) :
    (dats m 0 c).arrAt 12 (cfgs 0).N = target m c := by
  refine (dats m 0 c).arrAt_eq_of_covers 12 _ (by decide +kernel) fun t hf y => ?_
  blk_simp
  rw [after0_12]
  idx_vars y
  rw [show y0 = 0 from Subsingleton.elim _ _]
  rw [emb_out]
  exact (stored_block m c t hq hl y1 y2).trans (target_apply m c t y1 y2).symm

/-- Distinct windows of the call belong to distinct arrays. -/
theorem arr_inj : Function.Injective (Pipeline.arrRef (cfgs 0).spec) := by decide

/-- The result array after the lines that follow the region. -/
theorem tail (c : Dev nD) (b : Fin 8) (j : Fin 384) (y x : Fin 32) :
    Pipeline.afterTail₀ cfgs (dats m) 0 (V0 m) [hostOps1] c main_v0 (ix4 b j y x)
      = (dats m 0 c).arrAt 12 (cfgs 0).N (ix3 b ⟨32 * y.val + x.val, by omega⟩ j) := by
  show StableHlo.after hostOps1 _ (Proc.tc.devRef main_v0) _ = _
  after_reads_at
  refine (congrFun (Pipeline.withArrays_arr (cfgs 0).spec arr_inj c (V0 m c) (fun w => (dats m 0 c).arrAt w (cfgs 0).N) 12) _).trans ?_
  exact congrArg (fun k => (dats m 0 c).arrAt 12 (cfgs 0).N (ix3 b k j)) (Fin.ext (by show y.val * 32 + x.val = 32 * y.val + x.val; omega))

/-- Every run of the kernel program ends with the layer's output in the result array, its arguments unchanged. -/
theorem run (ρ : Dev nD → PrngReg) (hq : ∀ c b n k, ∃ x : ℝ, qk m c b n k = x) (hl : ∀ c b n k, ∃ x : ℝ, lg m c b n k = x) :
    θ_run defs (onTc (τ := τ) (main (F := Ideal))) ⟨m, fun _ => 0, ρ⟩ fun r => ∀ c : Dev nD,
      ∀ (b : Fin 8) (j : Fin 384) (y x : Fin 32),
        r.2.mem ((c.tc : Thread nD τ).loc main_v0) (ix4 b j y x) = layer m c b ⟨32 * y.val + x.val, by omega⟩ j :=
  (θ_run defs _ _).mono (fun r h c b j y x => by
    rw [(h c).2 main_v0 (Pipeline.mem_restRefs_of main_v0 (by decide) (by decide)), tail, final m c (hq c) (hl c), target_apply]) (run_main m ρ)

end Cert.KernelIdeal.Block
-- ==== Proof.Finite.lean ====
/-
# What the precondition gives

A finite query, finite logit weights and finite logit biases make every entry of the query rows and every logit a real number.
-/
module

public import proofs.«01_k».proof.Defs
public import proofs.«01_k».proof.Proof.Tables
public import proofs.«01_k».proof.Proof.KernelRun

@[expose] public section

set_option maxRecDepth 16384

noncomputable section

namespace Cert.KernelIdeal.Block

open Idealize.ShloMosaic Idealize.ShloMosaic.TcCoe Idealize.SL.Sem Cert.KernelIdeal Cert.KernelIdeal.Gen

/-- The precondition's comparisons take shapes that broadcast. -/
instance preFacts : Cert.Pre_logits_finite.Facts where
  bcast_S_S8x384x32x32 := by decide
  bcast_S_S32x384 := by decide
  bcast_S_S32 := by decide

/-- A number whose absolute value is less than infinity is real. -/
theorem real_of_abs (x : EReal) (h : BitVec.ofBool (decide (max x (-x) < (⊤ : EReal))) = 1#1) : ∃ r : ℝ, x = r := by
  induction x using EReal.rec with
  | bot => exact absurd h (by simp)
  | top => exact absurd h (by simp)
  | coe r => exact ⟨r, rfl⟩

/-- A sum of products of reals is real. -/
theorem real_sum {k : Type} [Fintype k] (f g : k → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  simp only [ha, hb, ← EReal.coe_mul]
  exact (map_sum (⟨⟨Real.toEReal, EReal.coe_zero⟩, EReal.coe_add⟩ : ℝ →+ EReal) (fun i => a i * b i) Finset.univ).symm

/-- The position table is real. -/
theorem pe_real (n : Fin 1024) (k : Fin 384) : ∃ r : ℝ, Spec.pe T n k = r := by
  unfold Spec.pe
  by_cases h : k.val % 4 < 2
  · rw [dif_pos h]; exact Tables.wave_real _
  · rw [dif_neg h]; exact Tables.wave_real _

variable (m : (ℓ : Loc nD τ sig) → Buf (Elt Ideal) ℓ)

/-- Under the precondition the query, the logits' weights and their biases are real. -/
theorem args_real (h : Cert.Pre_KernelIdeal_logits_finite m) (c : Dev nD) :
    (∀ b k y x, ∃ r : ℝ, m ((c.tc : Thread nD τ).loc main_arg0) (ix4 b k y x) = (r : EReal))
    ∧ (∀ j k, ∃ r : ℝ, m ((c.tc : Thread nD τ).loc main_arg6) (ix2 j k) = (r : EReal))
    ∧ (∀ j, ∃ r : ℝ, m ((c.tc : Thread nD τ).loc main_arg7) (ix1 j) = (r : EReal)) := by
  obtain ⟨h0, h6, h7⟩ := h c
  refine ⟨fun b k y x => real_of_abs _ ?_, fun j k => real_of_abs _ ?_, fun j => real_of_abs _ ?_⟩
  · have e := congrFun h0 (ix4 b k y x)
    rw [← Consts.ctop]
    exact e
  · have e := congrFun h6 (ix2 j k)
    rw [← Consts.ctop]
    exact e
  · have e := congrFun h7 (ix1 j)
    rw [← Consts.ctop]
    exact e

/-- Under the precondition the query rows are real. -/
theorem qk_real (h : Cert.Pre_KernelIdeal_logits_finite m) (c : Dev nD) (b : Fin 8) (n : Fin 1024) (k : Fin 384) :
    ∃ r : ℝ, qk m c b n k = r := by
  obtain ⟨r, hr⟩ := (args_real m h c).1 b k ⟨n.val / 32, by omega⟩ ⟨n.val % 32, by omega⟩
  obtain ⟨s, hs⟩ := pe_real n k
  refine ⟨r + s, ?_⟩
  rw [EReal.coe_add, ← hr, ← hs]
  rfl

/-- Under the precondition the logits are real. -/
theorem lg_real (h : Cert.Pre_KernelIdeal_logits_finite m) (c : Dev nD) (b : Fin 8) (n : Fin 1024) (j : Fin 32) :
    ∃ r : ℝ, lg m c b n j = r := by
  obtain ⟨r, hr⟩ := real_sum (fun k : Fin 384 => qk m c b n k) (fun k => m ((c.tc : Thread nD τ).loc main_arg6) (ix2 j k))
    (fun k => qk_real m h c b n k) (fun k => (args_real m h c).2.1 j k)
  obtain ⟨s, hs⟩ := (args_real m h c).2.2 j
  refine ⟨r + s, ?_⟩
  rw [EReal.coe_add, ← hr, ← hs]
  rfl

end Cert.KernelIdeal.Block
-- ==== Proof.RefInputs.lean ====
/-
# The reference's inner values

The reference's host lines up to the sampling, each read at an index in the words of the layer: the query with its position
table, the logits and their softmax, the pixel coordinates, and the value map.
-/
module

public import proofs.«01_k».proof.Proof.Gen.ReferenceIdeal.Run
public import proofs.«01_k».proof.Proof.Spec
public import proofs.«01_k».proof.Proof.Consts
public import Idealize.ShloMosaic.Lib.Pointwise
public import Idealize.ShloMosaic.Lib.Tactic.CleanTypes

@[expose] public section

set_option maxRecDepth 16384

noncomputable section

namespace Cert.ReferenceIdeal.Layer

open Idealize.ShloMosaic Idealize.ShloMosaic.TcCoe Idealize.SL.Sem Idealize.ShloMosaic.StableHlo
open Cert.ReferenceIdeal Cert.ReferenceIdeal.Gen Cert.ReferenceIdeal.Value

variable (W : Valuation τ sig (Elt Ideal))

/-- The position table's entries. -/
def T (i : Fin 6144) : EReal := Ideal.ofBits .f32 (lit0 i)

/-- The reference points' entries. -/
def R (i : Fin 2048) : EReal := Ideal.ofBits .f32 (lit2 i)

/-- One image of the query. -/
def qIn (b : Fin 8) (k : Fin 384) (y x : Fin 32) : EReal := W (Proc.tc.devRef main_arg0) (ix4 b k y x)
/-- One image of the value. -/
def vIn (b : Fin 8) (k : Fin 384) (y x : Fin 32) : EReal := W (Proc.tc.devRef main_arg1) (ix4 b k y x)
/-- The value projection's weights. -/
def wv (j k : Fin 384) : EReal := W (Proc.tc.devRef main_arg2) (ix2 j k)
/-- The value projection's bias. -/
def bv (j : Fin 384) : EReal := W (Proc.tc.devRef main_arg3) (ix1 j)
/-- The offsets' weights. -/
def wo (j : Fin 64) (k : Fin 384) : EReal := W (Proc.tc.devRef main_arg4) (ix2 j k)
/-- The offsets' bias. -/
def bo (j : Fin 64) : EReal := W (Proc.tc.devRef main_arg5) (ix1 j)
/-- The logits' weights. -/
def wa (j : Fin 32) (k : Fin 384) : EReal := W (Proc.tc.devRef main_arg6) (ix2 j k)
/-- The logits' bias. -/
def ba (j : Fin 32) : EReal := W (Proc.tc.devRef main_arg7) (ix1 j)
/-- The output projection's weights. -/
def wp (j k : Fin 384) : EReal := W (Proc.tc.devRef main_arg8) (ix2 j k)
/-- The output projection's bias. -/
def bp (j : Fin 384) : EReal := W (Proc.tc.devRef main_arg9) (ix1 j)

/-- One image's query rows with the position table. -/
def qk (b : Fin 8) : Fin 1024 → Fin 384 → EReal := Spec.query T (qIn W b)
/-- One image's offsets. -/
def off (b : Fin 8) : Fin 1024 → Fin 64 → EReal := Spec.lin (qk W b) (wo W) (bo W)
/-- One image's logits. -/
def lg (b : Fin 8) : Fin 1024 → Fin 32 → EReal := Spec.lin (qk W b) (wa W) (ba W)
/-- One image's projected values. -/
def vals (b : Fin 8) : Fin 1024 → Fin 384 → EReal := Spec.lin (Spec.rows (vIn W b)) (wv W) (bv W)

/-- The place of a table entry in row-major order. -/
theorem pos3 (a : Fin 32) (b : Fin 96) (d : Fin 2) (i : Fin 6144) (h : i.val = a.val * 192 + b.val * 2 + d.val) :
    S32x96x2.rowMajor (ix3 a b d) = i := by
  apply Fin.ext
  rw [h, rowMajor_val3 _ 192 2 rfl rfl]
  rfl

/-- The place of a reference point's coordinate in row-major order. -/
theorem pos2 (n : Fin 1024) (a : Fin 2) (i : Fin 2048) (h : i.val = 2 * n.val + a.val) : S1024x2.rowMajor (ix2 n a) = i := by
  apply Fin.ext
  rw [h, rowMajor_val2 _ 2 rfl]
  show n.val * 2 + a.val = 2 * n.val + a.val
  omega

set_option maxHeartbeats 2000000 in
/-- The query rows the reference forms, position table added. -/
theorem v10_apply (hw : lit1 = lit0) (b : Fin 8) (n : Fin 1024) (k : Fin 384) :
    (res_main_v10 W : FVec Ideal S8x1024x384 .f32) (ix3 b n k) = qk W b n k := by
  unfold res_main_v10
  clean_types
  pointwise
  have hk := k.isLt
  have hn := n.isLt
  rw [hw]
  unfold qk Spec.query Spec.rows Spec.pe T qIn
  clear hw
  generalize lit0 = L
  by_cases h : k.val % 4 < 2
  · rw [dif_pos h, pos3 ⟨n.val % 32, by omega⟩ ⟨k.val / 4, by omega⟩ ⟨k.val % 4, h⟩ ⟨(n.val % 32) * 192 + (k.val / 4) * 2 + k.val % 4, by omega⟩ rfl, dif_pos h]
  · rw [dif_neg h, pos3 ⟨n.val / 32, by omega⟩ ⟨k.val / 4, by omega⟩ ⟨k.val % 4 - 2, by omega⟩ ⟨(n.val / 32) * 192 + (k.val / 4) * 2 + (k.val % 4 - 2), by omega⟩ rfl, dif_neg h]

/-- The reference's logits, by head and point. -/
theorem v30_apply (hw : lit1 = lit0) (b : Fin 8) (n : Fin 1024) (h : Fin 8) (p : Fin 4) :
    (res_main_v30 W : FVec Ideal S8x1024x8x4 .f32) (ix4 b n h p) = Spec.logits (lg W b) n h p := by
  unfold res_main_v30
  clean_types
  pointwise
  have e : (⟨h.val * 4 + p.val, by omega⟩ : Fin 32) = ⟨4 * h.val + p.val, by omega⟩ := Fin.ext (by show h.val * 4 + p.val = 4 * h.val + p.val; omega)
  simp only [v10_apply W hw, e]
  rfl

/-- The exponentials under the reference's softmax: of each logit less the greatest. -/
theorem v37_apply (hw : lit1 = lit0) (b : Fin 8) (n : Fin 1024) (h : Fin 8) (p : Fin 4) :
    (res_main_v37 W : FVec Ideal S8x1024x8x4 .f32) (ix4 b n h p)
      = Ideal.exp (Spec.logits (lg W b) n h p - Finset.fold max ⊥ (Spec.logits (lg W b) n h) Finset.univ) := by
  unfold res_main_v37
  clean_types
  pointwise
  simp only [v30_apply W hw, Consts.cbot]
  rw [max_eq_right bot_le]

/-- Doubling less one, and back, is halfway to nothing: what is left is 32 times the point, less a half. -/
theorem back (z : EReal) :
    ((((2 : ℝ) : EReal) * z - 1) + 1) * ((32 : ℝ) : EReal) * ((1 / 2 : ℝ) : EReal) - ((1 / 2 : ℝ) : EReal)
      = z * ((32 : ℝ) : EReal) - ((1 / 2 : ℝ) : EReal) := by
  induction z using EReal.rec with
  | bot =>
    have h1 : (⊥ : EReal) - 1 = ⊥ := rfl
    have h2 : (⊥ : EReal) + 1 = ⊥ := rfl
    rw [EReal.coe_mul_bot_of_pos (by norm_num), h1, h2, EReal.bot_mul_coe_of_pos (by norm_num), EReal.bot_mul_coe_of_pos (by norm_num)]
  | top =>
    have h1 : (⊤ : EReal) - 1 = ⊤ := rfl
    have h2 : (⊤ : EReal) + 1 = ⊤ := rfl
    rw [EReal.coe_mul_top_of_pos (by norm_num), h1, h2, EReal.top_mul_coe_of_pos (by norm_num), EReal.top_mul_coe_of_pos (by norm_num)]
  | coe x =>
    have h1 : (1 : EReal) = ((1 : ℝ) : EReal) := rfl
    rw [h1]
    norm_cast
    congr 1
    ring

/-- The reference's way to a pixel coordinate, from the unit square and back, gives the kernel's. -/
theorem pix_eq (r o : EReal) :
    ((((2 : ℝ) : EReal) * (r + Ideal.div o ((32 : ℝ) : EReal)) - 1) + 1) * ((32 : ℝ) : EReal) * ((1 / 2 : ℝ) : EReal) - ((1 / 2 : ℝ) : EReal)
      = Spec.pixE r o := by
  have hd : Ideal.div o ((32 : ℝ) : EReal) = o * ((1 / 32 : ℝ) : EReal) := by
    unfold Ideal.div
    rw [if_neg (by norm_cast), ← EReal.coe_inv, one_div]
  rw [hd, back]
  rfl

/-- The sampling point on the square from -1 to 1. -/
theorem v58_apply (hw : lit1 = lit0) (bh : Fin 64) (n : Fin 1024) (p : Fin 4) (a : Fin 2) :
    (res_main_v58 W : FVec Ideal S64x1024x4x2 .f32) (ix4 bh n p a)
      = ((2 : ℝ) : EReal) * (Spec.refs R n a + Ideal.div (off W ⟨bh.val / 8, by omega⟩ n ⟨8 * (bh.val % 8) + 2 * p.val + a.val, by omega⟩) ((32 : ℝ) : EReal)) - 1 := by
  unfold res_main_v58
  clean_types
  pointwise
  have e : (⟨bh.val % 8 * 8 + p.val * 2 + a.val, by omega⟩ : Fin 64) = ⟨8 * (bh.val % 8) + 2 * p.val + a.val, by omega⟩ :=
    Fin.ext (by show bh.val % 8 * 8 + p.val * 2 + a.val = 8 * (bh.val % 8) + 2 * p.val + a.val; omega)
  simp only [v10_apply W hw, e, Consts.c2, Consts.c32]
  rw [pos2 n a ⟨2 * n.val + a.val, by omega⟩ rfl]
  rfl

/-- The reference's pixel column. -/
theorem v68_apply (hw : lit1 = lit0) (bh : Fin 64) (n : Fin 1024) (p : Fin 4) :
    (res_main_v68 W : FVec Ideal S64x1024x4 .f32) (ix3 bh n p)
      = Spec.pixE (Spec.refs R n 0) (off W ⟨bh.val / 8, by omega⟩ n ⟨8 * (bh.val % 8) + 2 * p.val, by omega⟩) := by
  unfold res_main_v68
  clean_types
  pointwise
  rw [v58_apply W hw, Consts.c32, Consts.chalf]
  exact pix_eq _ _

/-- The reference's pixel row. -/
theorem v78_apply (hw : lit1 = lit0) (bh : Fin 64) (n : Fin 1024) (p : Fin 4) :
    (res_main_v78 W : FVec Ideal S64x1024x4 .f32) (ix3 bh n p)
      = Spec.pixE (Spec.refs R n 1) (off W ⟨bh.val / 8, by omega⟩ n ⟨8 * (bh.val % 8) + 2 * p.val + 1, by omega⟩) := by
  unfold res_main_v78
  clean_types
  pointwise
  rw [v58_apply W hw, Consts.c32, Consts.chalf]
  exact pix_eq _ _

/-- The reference's projected values, by head and channel. -/
theorem v91_apply (bh : Fin 64) (d : Fin 48) (n : Fin 1024) : (res_main_v91 W : FVec Ideal S64x48x1024 .f32) (ix3 bh d n)
    = vals W ⟨bh.val / 8, by omega⟩ n ⟨48 * (bh.val % 8) + d.val, by omega⟩ := by
  unfold res_main_v91
  clean_types
  pointwise
  have e : (⟨bh.val % 8 * 48 + d.val, by omega⟩ : Fin 384) = ⟨48 * (bh.val % 8) + d.val, by omega⟩ :=
    Fin.ext (by show bh.val % 8 * 48 + d.val = 48 * (bh.val % 8) + d.val; omega)
  simp only [e]
  rfl

end Cert.ReferenceIdeal.Layer
-- ==== Proof.Gather.lean ====
/-
# What the reference gathers

The reference samples its value map by four gathers, one for each cell around the point. A gather's index is the row-major
place of the clamped cell, so it is never out of range: the wrap of a negative index and the mask of an index out of range,
which the gather's host line spells out, are both idle. These are the operations as functions of the two floored
coordinates, and what each gives at an index.
-/
module

public import proofs.«01_k».proof.Proof.Gen.ReferenceIdeal.Run
public import proofs.«01_k».proof.Proof.Sample
public import proofs.«01_k».proof.Proof.Consts
public import Idealize.ShloMosaic.Lib.Pointwise
public import Idealize.ShloMosaic.Lib.Tactic
public import Idealize.ShloMosaic.Lib.Tactic.CleanTypes

@[expose] public section

set_option maxRecDepth 16384

noncomputable section

namespace Cert.ReferenceIdeal.Layer

open Idealize.ShloMosaic Idealize.ShloMosaic.TcCoe Idealize.SL.Sem Idealize.ShloMosaic.StableHlo
open Cert.ReferenceIdeal Cert.ReferenceIdeal.Gen Cert.Sample

/-- The row-major place of the cell at the floored coordinates `fy` and `fx`, each clamped into the map. -/
def place (fy fx : FVec Ideal S64x1024x4 .f32) : IVec S64x1x4096 32 :=
  broadcastInDim S64x1x4096 ![0, 2] bcast_S64x4096_S64x1x4096_0_2 (shapeCast _ (addi (muli (fptosi 32 (minimumf (broadcastInDim S64x1024x4 ![] bcast_S_S64x1024x4 (sitofp .f32 (constantI S_ 32 31#32))) (maximumf (broadcastInDim S64x1024x4 ![] bcast_S_S64x1024x4 (sitofp .f32 (constantI S_ 32 0#32))) fy))) (broadcastInDim S64x1024x4 ![] bcast_S_S64x1024x4 (constantI S_ 32 32#32))) (fptosi 32 (minimumf (broadcastInDim S64x1024x4 ![] bcast_S_S64x1024x4 (sitofp .f32 (constantI S_ 32 31#32))) (maximumf (broadcastInDim S64x1024x4 ![] bcast_S_S64x1024x4 (sitofp .f32 (constantI S_ 32 0#32))) fx)))) shapeCasts_S64x1024x4_S64x4096)

/-- The places as the gather takes them: a negative one counted from the end. -/
def wrapped (v : IVec S64x1x4096 32) : IVec S64x4096x1 32 :=
  shapeCast _ (select (cmpi .slt v (broadcastInDim S64x1x4096 ![] bcast_S_S64x1x4096 (constantI S_ 32 0#32))) (addi v (broadcastInDim S64x1x4096 ![] bcast_S_S64x1x4096 (constantI S_ 32 1024#32))) v) shapeCasts_S64x1x4096_S64x4096x1

/-- The map `g` at the places `idx`, a place out of range masked. -/
def picked (g : FVec Ideal S64x48x1024 .f32) (idx : IVec S64x4096x1 32) : FVec Ideal S64x48x4096 .f32 :=
  select (broadcastInDim S64x48x4096 ![0, 2] bcast_S64x4096_S64x48x4096_0_2 (Host.reduce IntOp.andi (andi (cmpi .sge idx (broadcastInDim S64x4096x1 ![] bcast_S_S64x4096x1 (constantI S_ 32 0#32))) (cmpi .sle idx (broadcastInDim S64x4096x1 ![0, 1, 2] bcast_S1x1x1_S64x4096x1_0_1_2 (broadcastInDim S1x1x1 ![2] bcast_S1_S1x1x1_2 (constantI S1 32 1023#32))))) (constantI S_ 1 1#1) reducesTo_S64x4096x1_S64x4096_d2 h_S_)) (Host.gather gather_S64x48x1024_S64x4096x1_S64x48x4096_1_2_0_0_2_2_1481 g idx) (broadcastInDim S64x48x4096 ![] bcast_S_S64x48x4096 (constant S_ .f32 0x7FC00000#32))

/-- Whether the floored coordinates lie inside the map. -/
def inside (fx fy : FVec Ideal S64x1024x4 .f32) : IVec S64x1024x4 1 :=
  andi (andi (andi (cmpf .oge fx (broadcastInDim S64x1024x4 ![] bcast_S_S64x1024x4 (constant S_ .f32 0x00000000#32))) (cmpf .ole fx (broadcastInDim S64x1024x4 ![] bcast_S_S64x1024x4 (constant S_ .f32 0x41F80000#32)))) (cmpf .oge fy (broadcastInDim S64x1024x4 ![] bcast_S_S64x1024x4 (constant S_ .f32 0x00000000#32)))) (cmpf .ole fy (broadcastInDim S64x1024x4 ![] bcast_S_S64x1024x4 (constant S_ .f32 0x41F80000#32)))

/-- One tap: what the map holds at a cell, zero when the cell is outside, times the cell's two weights. -/
def tapped (g : FVec Ideal S64x48x1024 .f32) (fx fy wx wy : FVec Ideal S64x1024x4 .f32) : FVec Ideal S64x48x1024x4 .f32 :=
  mulf (mulf (shapeCast _ (picked g (wrapped (place fy fx))) shapeCasts_S64x48x4096_S64x48x1024x4) (broadcastInDim S64x48x1024x4 ![0, 1, 2, 3] bcast_S64x1x1024x4_S64x48x1024x4_0_1_2_3 (uitofp .f32 (broadcastInDim S64x1x1024x4 ![0, 2, 3] bcast_S64x1024x4_S64x1x1024x4_0_2_3 (inside fx fy))))) (broadcastInDim S64x48x1024x4 ![0, 1, 2, 3] bcast_S64x1x1024x4_S64x48x1024x4_0_1_2_3 (broadcastInDim S64x1x1024x4 ![0, 2, 3] bcast_S64x1024x4_S64x1x1024x4_0_2_3 (mulf wx wy)))

/-- The place at an index, as a word: 32 times the row's cell plus the column's. -/
theorem place_apply (fy fx : FVec Ideal S64x1024x4 .f32) (bh : Fin 64) (z : Fin 1) (q : Fin 4096) :
    place fy fx (ix3 bh z q) = BitVec.ofNat 32 (at_ (cell (fy (ix3 bh ⟨q.val / 4, by omega⟩ ⟨q.val % 4, by omega⟩)))
      (cell (fx (ix3 bh ⟨q.val / 4, by omega⟩ ⟨q.val % 4, by omega⟩)))).val := by
  unfold place
  pointwise
  have e31 : (FloatOps.sitofp (F := Ideal) FTy.f32 31#32 : EReal) = 31 := by
    show ((((31#32 : BitVec 32).toInt : ℝ)) : EReal) = 31
    rw [show (31#32 : BitVec 32).toInt = 31 from by decide]
    norm_num
    rfl
  have e0 : (FloatOps.sitofp (F := Ideal) FTy.f32 0#32 : EReal) = 0 := by
    show ((((0#32 : BitVec 32).toInt : ℝ)) : EReal) = 0
    norm_num
  rw [e31, e0]
  generalize (fy (ix3 bh ⟨q.val / 4, _⟩ ⟨q.val % 4, _⟩) : EReal) = y
  generalize (fx (ix3 bh ⟨q.val / 4, _⟩ ⟨q.val % 4, _⟩) : EReal) = x
  show cellW y * 32#32 + cellW x = _
  rw [cellW_eq y, cellW_eq x]
  apply BitVec.eq_of_toNat_eq
  have hy := (cell y).isLt
  have hx := (cell x).isLt
  simp only [BitVec.toNat_add, BitVec.toNat_mul, BitVec.toNat_ofNat, at_]
  omega

/-- A place's word read as a signed number is the place. -/
theorem toInt_place (s : Fin 1024) : (BitVec.ofNat 32 s.val).toInt = (s.val : Int) := by
  have hs := s.isLt
  rw [BitVec.toInt_eq_toNat_of_lt (by rw [BitVec.toNat_ofNat]; omega), BitVec.toNat_ofNat]
  omega

/-- The wrap leaves a place alone: it isn't negative. -/
theorem wrapped_apply (v : IVec S64x1x4096 32) (bh : Fin 64) (q : Fin 4096) (z : Fin 1) (s : Fin 1024)
    (h : v (ix3 bh 0 q) = BitVec.ofNat 32 s.val) : wrapped v (ix3 bh q z) = BitVec.ofNat 32 s.val := by
  unfold wrapped
  pointwise
  rw [h]
  have hs := s.isLt
  have e : IntOp.cmpi .slt (BitVec.ofNat 32 s.val) 0#32 = 0#1 := by
    show BitVec.ofBool _ = _
    rw [show ((BitVec.ofNat 32 s.val).slt 0#32) = false from ?_]
    · rfl
    · rw [BitVec.slt, toInt_place]
      exact decide_eq_false (by show ¬ ((s.val : Int) < 0); omega)
  rw [e]
  rfl

/-- The gather's operand row is the result's row. -/
theorem gather_row (idx : IVec S64x4096x1 32) (bh : Fin 64) (d : Fin 48) (q : Fin 4096) :
    (gather_S64x48x1024_S64x4096x1_S64x48x4096_1_2_0_0_2_2_1481.operandIdx (ix3 bh d q) idx 0).val = 0 + bh.val + 0 := by sl_kernel_rfl

/-- The gather's operand channel is the result's channel. -/
theorem gather_channel (idx : IVec S64x4096x1 32) (bh : Fin 64) (d : Fin 48) (q : Fin 4096) :
    (gather_S64x48x1024_S64x4096x1_S64x48x4096_1_2_0_0_2_2_1481.operandIdx (ix3 bh d q) idx 1).val = 0 + 0 + d.val := by sl_kernel_rfl

/-- The gather's index for a result index: the result's row and place. -/
theorem gather_index (bh : Fin 64) (d : Fin 48) (q : Fin 4096) (c : Fin gather_S64x48x1024_S64x4096x1_S64x48x4096_1_2_0_0_2_2_1481.startIndexMap.length) :
    gather_S64x48x1024_S64x4096x1_S64x48x4096_1_2_0_0_2_2_1481.siIdx (ix3 bh d q) c = ix3 bh q 0 := by
  funext b
  refine Fin.ext ?_
  match b with
  | ⟨0, _⟩ => sl_kernel_rfl
  | ⟨1, _⟩ => sl_kernel_rfl
  | ⟨2, _⟩ =>
    have hc : c.val < 1 := c.isLt
    have e : (gather_S64x48x1024_S64x4096x1_S64x48x4096_1_2_0_0_2_2_1481.siIdx (ix3 bh d q) c 2).val = c.val := by sl_kernel_rfl
    exact e.trans (by show c.val = 0; omega)

/-- The gather's operand place is the index read signed and clamped into the map. -/
theorem gather_place (idx : IVec S64x4096x1 32) (bh : Fin 64) (d : Fin 48) (q : Fin 4096) :
    (gather_S64x48x1024_S64x4096x1_S64x48x4096_1_2_0_0_2_2_1481.operandIdx (ix3 bh d q) idx 2).val
      = min (idx (ix3 bh q 0)).toInt.toNat (S64x48x1024.size 2 - gather_S64x48x1024_S64x4096x1_S64x48x4096_1_2_0_0_2_2_1481.sliceSizes 2) + 0 + 0 := by
  have h2 : (2 : Fin S64x48x1024.rank) ∈ gather_S64x48x1024_S64x4096x1_S64x48x4096_1_2_0_0_2_2_1481.startIndexMap := List.mem_singleton.2 rfl
  show gather_S64x48x1024_S64x4096x1_S64x48x4096_1_2_0_0_2_2_1481.start (ix3 bh d q) idx 2 + gather_S64x48x1024_S64x4096x1_S64x48x4096_1_2_0_0_2_2_1481.batchCoord (ix3 bh d q) 2 + gather_S64x48x1024_S64x4096x1_S64x48x4096_1_2_0_0_2_2_1481.offCoord (ix3 bh d q) 2 = _
  have hb : gather_S64x48x1024_S64x4096x1_S64x48x4096_1_2_0_0_2_2_1481.batchCoord (ix3 bh d q) 2 = 0 := gather_S64x48x1024_S64x4096x1_S64x48x4096_1_2_0_0_2_2_1481.batchCoord_eq_zero _ _ (by decide)
  have ho : gather_S64x48x1024_S64x4096x1_S64x48x4096_1_2_0_0_2_2_1481.offCoord (ix3 bh d q) 2 = 0 := gather_S64x48x1024_S64x4096x1_S64x48x4096_1_2_0_0_2_2_1481.offCoord_eq_zero _ _ (by rw [gather_S64x48x1024_S64x4096x1_S64x48x4096_1_2_0_0_2_2_1481.mem_sKept]; decide)
  rw [hb, ho]
  unfold GatherDims.start
  rw [dif_pos h2, gather_index]

/-- The gather reads the map at the place its index names. -/
theorem gather_apply (g : FVec Ideal S64x48x1024 .f32) (idx : IVec S64x4096x1 32) (bh : Fin 64) (d : Fin 48) (q : Fin 4096)
    (s : Fin 1024) (h : idx (ix3 bh q 0) = BitVec.ofNat 32 s.val) :
    Host.gather gather_S64x48x1024_S64x4096x1_S64x48x4096_1_2_0_0_2_2_1481 g idx (ix3 bh d q) = g (ix3 bh d s) := by
  unfold Host.gather
  have hz : S64x48x1024.size 2 - gather_S64x48x1024_S64x4096x1_S64x48x4096_1_2_0_0_2_2_1481.sliceSizes 2 = 1023 := by decide
  have hs := s.isLt
  have e0 := gather_row idx bh d q
  have e1 := gather_channel idx bh d q
  have e2 := gather_place idx bh d q
  rw [hz, h, toInt_place, Int.toNat_natCast, Nat.min_eq_left (by omega)] at e2
  generalize gather_S64x48x1024_S64x4096x1_S64x48x4096_1_2_0_0_2_2_1481.operandIdx (ix3 bh d q) idx = i at e0 e1 e2 ⊢
  refine congrArg g (funext fun a => Fin.ext ?_)
  match a with
  | ⟨0, _⟩ => exact e0.trans (by show 0 + bh.val + 0 = bh.val; omega)
  | ⟨1, _⟩ => exact e1.trans (by show 0 + 0 + d.val = d.val; omega)
  | ⟨2, _⟩ => exact e2

/-- A place is in range, so the mask is idle: the map at the place. -/
theorem picked_apply (g : FVec Ideal S64x48x1024 .f32) (idx : IVec S64x4096x1 32) (bh : Fin 64) (d : Fin 48) (q : Fin 4096)
    (s : Fin 1024) (h : idx (ix3 bh q 0) = BitVec.ofNat 32 s.val) : picked g idx (ix3 bh d q) = g (ix3 bh d s) := by
  unfold picked
  pointwise
  have hl := s.isLt
  have e0 : IntOp.cmpi .sge (BitVec.ofNat 32 s.val) 0#32 = 1#1 := by
    show BitVec.ofBool ((0#32 : BitVec 32).sle (BitVec.ofNat 32 s.val)) = 1#1
    rw [BitVec.sle, toInt_place, decide_eq_true (by show (0 : Int) ≤ s.val; omega)]
    rfl
  have e1 : IntOp.cmpi .sle (BitVec.ofNat 32 s.val) 1023#32 = 1#1 := by
    show BitVec.ofBool ((BitVec.ofNat 32 s.val).sle 1023#32) = 1#1
    rw [BitVec.sle, toInt_place, decide_eq_true (by show (s.val : Int) ≤ 1023; omega)]
    rfl
  rw [Finset.univ_unique, Finset.fold_singleton, show (default : Fin 1) = 0 from rfl, h, e0, e1]
  exact gather_apply g idx bh d q s h

/-- The mask of one tap as a number: one when both floored coordinates lie inside the map, zero otherwise. -/
theorem inside_apply (fx fy : FVec Ideal S64x1024x4 .f32) (bh : Fin 64) (n : Fin 1024) (p : Fin 4) :
    (FloatOps.uitofp (F := Ideal) FTy.f32 (inside fx fy (ix3 bh n p)) : EReal)
      = lowIn (fx (ix3 bh n p)) * lowIn (fy (ix3 bh n p)) := by
  unfold inside
  pointwise
  rw [Cert.Consts.c31]
  generalize (fx (ix3 bh n p) : EReal) = x
  generalize (fy (ix3 bh n p) : EReal) = y
  have one : (FloatOps.uitofp (F := Ideal) FTy.f32 (1#1) : EReal) = 1 := by
    show ((((1#1 : BitVec 1).toNat : ℝ)) : EReal) = 1
    norm_num
  have zero : (FloatOps.uitofp (F := Ideal) FTy.f32 (0#1) : EReal) = 0 := by
    show ((((0#1 : BitVec 1).toNat : ℝ)) : EReal) = 0
    norm_num
  unfold lowIn
  by_cases h1 : 0 ≤ x <;> by_cases h2 : x ≤ 31 <;> by_cases h3 : 0 ≤ y <;> by_cases h4 : y ≤ 31 <;>
    simp only [h1, h2, h3, h4, decide_true, decide_false, and_self, and_true, and_false, false_and, true_and, if_true, if_false,
      mul_one, mul_zero, zero_mul] <;> first | exact one | exact zero

/-- One tap at an index: what the map holds at the cell times the cell's weights, each with its mask. -/
theorem tapped_apply (g : FVec Ideal S64x48x1024 .f32) (fx fy wx wy : FVec Ideal S64x1024x4 .f32) (bh : Fin 64) (d : Fin 48)
    (n : Fin 1024) (p : Fin 4) : tapped g fx fy wx wy (ix4 bh d n p)
      = (g (ix3 bh d (at_ (cell (fy (ix3 bh n p))) (cell (fx (ix3 bh n p))))) : EReal)
        * ((wx (ix3 bh n p) * lowIn (fx (ix3 bh n p))) * (wy (ix3 bh n p) * lowIn (fy (ix3 bh n p)))) := by
  unfold tapped
  pointwise
  rw [inside_apply]
  have key := picked_apply g (wrapped (place fy fx)) bh d ⟨n.val * 4 + p.val, by omega⟩ _
    (wrapped_apply _ bh _ 0 _ (place_apply fy fx bh 0 _))
  have e1 : (⟨(n.val * 4 + p.val) / 4, by omega⟩ : Fin 1024) = n := Fin.ext (by show (n.val * 4 + p.val) / 4 = n.val; omega)
  have e2 : (⟨(n.val * 4 + p.val) % 4, by omega⟩ : Fin 4) = p := Fin.ext (by show (n.val * 4 + p.val) % 4 = p.val; omega)
  simp only [e1, e2] at key
  rw [key]
  exact tap _ _ _ _ _

end Cert.ReferenceIdeal.Layer
-- ==== Proof.RefHeads.lean ====
/-
# What the reference's heads sample

The four gathers weighed and added are the bilinear samples, and a head's samples times their attention weights are summed
over the points.
-/
module

public import proofs.«01_k».proof.Proof.RefInputs
public import proofs.«01_k».proof.Proof.Gather

@[expose] public section

set_option maxRecDepth 16384

noncomputable section

namespace Cert.ReferenceIdeal.Layer

open Idealize.ShloMosaic Idealize.ShloMosaic.TcCoe Idealize.SL.Sem Idealize.ShloMosaic.StableHlo
open Cert.ReferenceIdeal Cert.ReferenceIdeal.Gen Cert.ReferenceIdeal.Value

variable (W : Valuation τ sig (Elt Ideal))

/-- The four taps added. -/
def sampled : FVec Ideal S64x48x1024x4 .f32 :=
  addf (addf (addf (tapped (res_main_v91 W) (res_main_v79 W) (res_main_v82 W) (res_main_v87 W) (res_main_v90 W))
    (tapped (res_main_v91 W) (res_main_v81 W) (res_main_v82 W) (res_main_v85 W) (res_main_v90 W)))
    (tapped (res_main_v91 W) (res_main_v79 W) (res_main_v84 W) (res_main_v87 W) (res_main_v88 W)))
    (tapped (res_main_v91 W) (res_main_v81 W) (res_main_v84 W) (res_main_v85 W) (res_main_v88 W))

/-- The attention weights, by image and head. -/
def weights : FVec Ideal S64x1x1024x4 .f32 :=
  shapeCast _ (transpose S8x8x1024x4 [0, 2, 1, 3] (Host.divf (res_main_v37 W) (broadcastInDim S8x1024x8x4 ![0, 1, 2, 3] bcast_S8x1024x8x1_S8x1024x8x4_0_1_2_3 (broadcastInDim S8x1024x8x1 ![0, 1, 2] bcast_S8x1024x8_S8x1024x8x1_0_1_2 (Host.reduceAdd (res_main_v37 W) (constant S_ .f32 0x00000000#32) reducesTo_S8x1024x8x4_S8x1024x8_d3 h_S_)))) transposes_S8x1024x8x4_S8x8x1024x4_0_2_1_3) shapeCasts_S8x8x1024x4_S64x1x1024x4

/-- What the heads sample: the samples times their weights, summed over the points. -/
def heads : FVec Ideal S64x48x1024 .f32 :=
  Host.reduceAdd (mulf (sampled W) (broadcastInDim S64x48x1024x4 ![0, 1, 2, 3] bcast_S64x1x1024x4_S64x48x1024x4_0_1_2_3 (weights W))) (constant S_ .f32 0x00000000#32) reducesTo_S64x48x1024x4_S64x48x1024_d3 h_S_

/-- The pixel column of one point. -/
def px (bh : Fin 64) (n : Fin 1024) (p : Fin 4) : EReal :=
  Spec.pixE (Spec.refs R n 0) (off W ⟨bh.val / 8, by omega⟩ n ⟨8 * (bh.val % 8) + 2 * p.val, by omega⟩)

/-- The pixel row of one point. -/
def py (bh : Fin 64) (n : Fin 1024) (p : Fin 4) : EReal :=
  Spec.pixE (Spec.refs R n 1) (off W ⟨bh.val / 8, by omega⟩ n ⟨8 * (bh.val % 8) + 2 * p.val + 1, by omega⟩)

/-- A floored coordinate one further on is inside the map when the coordinate is far enough from its end. -/
theorem lowIn_next (f : EReal) : Sample.lowIn (f + 1) = Sample.highIn f := by
  unfold Sample.lowIn Sample.highIn
  simp only [Sample.high_iff]

/-- The bilinear sample with each cell's mask on its own floored coordinate. -/
theorem bil_taps (f : Fin 1024 → EReal) (x y : EReal) :
    f (Sample.at_ (Sample.cell (Sample.fl y)) (Sample.cell (Sample.fl x)))
        * ((1 - (x - Sample.fl x)) * Sample.lowIn (Sample.fl x) * ((1 - (y - Sample.fl y)) * Sample.lowIn (Sample.fl y)))
      + f (Sample.at_ (Sample.cell (Sample.fl y)) (Sample.cell (Sample.fl x + 1)))
        * ((x - Sample.fl x) * Sample.lowIn (Sample.fl x + 1) * ((1 - (y - Sample.fl y)) * Sample.lowIn (Sample.fl y)))
      + f (Sample.at_ (Sample.cell (Sample.fl y + 1)) (Sample.cell (Sample.fl x)))
        * ((1 - (x - Sample.fl x)) * Sample.lowIn (Sample.fl x) * ((y - Sample.fl y) * Sample.lowIn (Sample.fl y + 1)))
      + f (Sample.at_ (Sample.cell (Sample.fl y + 1)) (Sample.cell (Sample.fl x + 1)))
        * ((x - Sample.fl x) * Sample.lowIn (Sample.fl x + 1) * ((y - Sample.fl y) * Sample.lowIn (Sample.fl y + 1)))
    = Sample.bil f x y := by
  rw [lowIn_next, lowIn_next]
  rfl

section Coordinates

variable (hw : lit1 = lit0) (bh : Fin 64) (n : Fin 1024) (p : Fin 4)
include hw

/-- The floored column. -/
theorem v79_apply : (res_main_v79 W : FVec Ideal S64x1024x4 .f32) (ix3 bh n p) = Sample.fl (px W bh n p) := by
  unfold res_main_v79
  pointwise
  rw [v68_apply W hw]
  rfl

/-- The floored row. -/
theorem v82_apply : (res_main_v82 W : FVec Ideal S64x1024x4 .f32) (ix3 bh n p) = Sample.fl (py W bh n p) := by
  unfold res_main_v82
  pointwise
  rw [v78_apply W hw]
  rfl

/-- The next column. -/
theorem v81_apply : (res_main_v81 W : FVec Ideal S64x1024x4 .f32) (ix3 bh n p) = Sample.fl (px W bh n p) + 1 := by
  unfold res_main_v81
  pointwise
  rw [v79_apply W hw]

/-- The next row. -/
theorem v84_apply : (res_main_v84 W : FVec Ideal S64x1024x4 .f32) (ix3 bh n p) = Sample.fl (py W bh n p) + 1 := by
  unfold res_main_v84
  pointwise
  rw [v82_apply W hw]

/-- The fraction of the column. -/
theorem v85_apply : (res_main_v85 W : FVec Ideal S64x1024x4 .f32) (ix3 bh n p) = px W bh n p - Sample.fl (px W bh n p) := by
  unfold res_main_v85
  pointwise
  rw [v79_apply W hw, v68_apply W hw]
  rfl

/-- What the column's fraction leaves of one. -/
theorem v87_apply : (res_main_v87 W : FVec Ideal S64x1024x4 .f32) (ix3 bh n p) = 1 - (px W bh n p - Sample.fl (px W bh n p)) := by
  unfold res_main_v87
  pointwise
  rw [v85_apply W hw]

/-- The fraction of the row. -/
theorem v88_apply : (res_main_v88 W : FVec Ideal S64x1024x4 .f32) (ix3 bh n p) = py W bh n p - Sample.fl (py W bh n p) := by
  unfold res_main_v88
  pointwise
  rw [v82_apply W hw, v78_apply W hw]
  rfl

/-- What the row's fraction leaves of one. -/
theorem v90_apply : (res_main_v90 W : FVec Ideal S64x1024x4 .f32) (ix3 bh n p) = 1 - (py W bh n p - Sample.fl (py W bh n p)) := by
  unfold res_main_v90
  pointwise
  rw [v88_apply W hw]

end Coordinates

/-- The four taps added are the bilinear sample of the head's channel. -/
theorem sampled_apply (hw : lit1 = lit0) (bh : Fin 64) (d : Fin 48) (n : Fin 1024) (p : Fin 4) :
    sampled W (ix4 bh d n p) = Sample.bil (fun s => vals W ⟨bh.val / 8, by omega⟩ s ⟨48 * (bh.val % 8) + d.val, by omega⟩)
      (px W bh n p) (py W bh n p) := by
  unfold sampled
  pointwise
  simp only [tapped_apply, v91_apply, v79_apply W hw, v81_apply W hw, v82_apply W hw, v84_apply W hw, v85_apply W hw,
    v87_apply W hw, v88_apply W hw, v90_apply W hw]
  exact bil_taps (fun s => vals W ⟨bh.val / 8, by omega⟩ s ⟨48 * (bh.val % 8) + d.val, by omega⟩) _ _

/-- The attention weights are the softmax of the head's logits. -/
theorem weights_apply (hw : lit1 = lit0) (bh : Fin 64) (z : Fin 1) (n : Fin 1024) (p : Fin 4) :
    weights W (ix4 bh z n p) = Spec.soft (Spec.logits (lg W ⟨bh.val / 8, by omega⟩) n ⟨bh.val % 8, by omega⟩) p := by
  unfold weights
  pointwise
  simp only [v37_apply W hw]
  rfl

/-- What one head samples at one position in one channel. -/
theorem heads_apply (hw : lit1 = lit0) (bh : Fin 64) (d : Fin 48) (n : Fin 1024) :
    heads W (ix3 bh d n) = Spec.samp (Spec.refs R) (off W ⟨bh.val / 8, by omega⟩) (lg W ⟨bh.val / 8, by omega⟩)
      (vals W ⟨bh.val / 8, by omega⟩) n ⟨bh.val % 8, by omega⟩ d := by
  unfold heads
  pointwise
  simp only [sampled_apply W hw, weights_apply W hw]
  rfl

end Cert.ReferenceIdeal.Layer
-- ==== Proof.RefResult.lean ====
/-
# What the reference leaves in its result

The heads' channels side by side go through the output projection, and the query is added twice: the layer's output.
-/
module

public import proofs.«01_k».proof.Proof.RefHeads

@[expose] public section

set_option maxRecDepth 16384

noncomputable section

namespace Cert.ReferenceIdeal.Layer

open Idealize.ShloMosaic Idealize.ShloMosaic.TcCoe Idealize.SL.Sem Idealize.ShloMosaic.StableHlo
open Cert.ReferenceIdeal Cert.ReferenceIdeal.Gen Cert.ReferenceIdeal.Value

variable (W : Valuation τ sig (Elt Ideal))

/-- The reference's result. -/
def result : FVec Ideal S8x384x32x32 .f32 :=
  shapeCast _ (transpose S8x384x1024 [0, 2, 1] (addf (addf (addf (Host.dotGeneral dot_S8x1024x384_S384x384_S8x1024x384_2_0_01_1_n_n none (transpose S8x1024x384 [0, 2, 1] (shapeCast _ (heads W) shapeCasts_S64x48x1024_S8x384x1024) transposes_S8x384x1024_S8x1024x384_0_2_1) (transpose S384x384 [1, 0] (W (Proc.devRef .tc main_arg8) : FVec Ideal S384x384 .f32) transposes_S384x384_S384x384_1_0 : FVec Ideal S384x384 .f32)) (broadcastInDim S8x1024x384 ![0, 1, 2] bcast_S1x1x384_S8x1024x384_0_1_2 (broadcastInDim S1x1x384 ![2] bcast_S384_S1x1x384_2 (W (Proc.devRef .tc main_arg9) : FVec Ideal S384 .f32)))) (res_main_v10 W)) (res_main_v10 W)) transposes_S8x1024x384_S8x384x1024_0_2_1) shapeCasts_S8x384x1024_S8x384x32x32

/-- The layer's output, of the arrays in `W`. -/
def layer (b : Fin 8) : Fin 1024 → Fin 384 → EReal :=
  Spec.layer T R (qIn W b) (vIn W b) (wv W) (bv W) (wo W) (bo W) (wa W) (ba W) (wp W) (bp W)

/-- A head's samples, by image and head. -/
theorem heads_at (hw : lit1 = lit0) (b h : Fin 8) (d : Fin 48) (n : Fin 1024) (bh : Fin 64) (d' : Fin 48)
    (n' : Fin 1024) (e : bh.val = b.val * 8 + h.val) (ed : d'.val = d.val) (en : n'.val = n.val) :
    heads W (ix3 bh d' n') = Spec.samp (Spec.refs R) (off W b) (lg W b) (vals W b) n h d := by
  have e1 : (⟨bh.val / 8, by omega⟩ : Fin 8) = b := Fin.ext (by show bh.val / 8 = b.val; omega)
  have e2 : (⟨bh.val % 8, by omega⟩ : Fin 8) = h := Fin.ext (by show bh.val % 8 = h.val; omega)
  rw [heads_apply W hw, e1, e2, show d' = d from Fin.ext ed, show n' = n from Fin.ext en]

/-- A sum over the 384 channels is the sum over the heads of the sums over each head's channels. -/
theorem by_head (f : Fin 384 → EReal) : ∑ c, f c = ∑ h : Fin 8, ∑ d : Fin 48, f ⟨48 * h.val + d.val, by omega⟩ := by
  rw [← Equiv.sum_comp (finProdFinEquiv : Fin 8 × Fin 48 ≃ Fin (8 * 48)) f, Fintype.sum_prod_type]
  refine Finset.sum_congr rfl fun h _ => Finset.sum_congr rfl fun d _ => congrArg f (Fin.ext ?_)
  show d.val + 48 * h.val = 48 * h.val + d.val
  omega

/-- The reference's result is the layer's output. -/
theorem result_apply (hw : lit1 = lit0) (b : Fin 8) (j : Fin 384) (y x : Fin 32) :
    result W (ix4 b j y x) = layer W b ⟨32 * y.val + x.val, by omega⟩ j := by
  have en : (⟨y.val * 32 + x.val, by omega⟩ : Fin 1024) = ⟨32 * y.val + x.val, by omega⟩ :=
    Fin.ext (by show y.val * 32 + x.val = 32 * y.val + x.val; omega)
  unfold result
  clean_types
  pointwise
  rw [by_head, v10_apply W hw, add_assoc]
  unfold layer Spec.layer Spec.out
  refine congrArg₂ (fun a b : EReal => a + b) (congrArg₂ (fun a b : EReal => a + b) ?_ rfl)
    (by rw [en]; rfl)
  refine Finset.sum_congr rfl fun h _ => Finset.sum_congr rfl fun d _ => ?_
  refine congrArg₂ (fun a b : EReal => a * b) ?_ rfl
  exact heads_at W hw b h d _ _ _ _ (by show b.val * 8 + (48 * h.val + d.val) / 48 = b.val * 8 + h.val; omega)
    (by show (48 * h.val + d.val) % 48 = d.val; omega) (by show y.val * 32 + x.val = 32 * y.val + x.val; omega)

/-- The reference leaves the layer's output in its result and its arguments as they were. -/
theorem run (hw : lit1 = lit0) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ∀ (b : Fin 8) (j : Fin 384) (y x : Fin 32),
        r.2.mem ((c.tc : Thread nD τ).loc main_v230) (ix4 b j y x) = layer (launchContents m c) b ⟨32 * y.val + x.val, by omega⟩ j :=
  (θ_run defs _ _).mono (fun r h c b j y x => by
    have e : r.2.mem ((c.tc : Thread nD τ).loc main_v230) = result (launchContents m c) := (h c).1
    rw [e]
    exact result_apply (launchContents m c) hw b j y x) (Cert.ReferenceIdeal.Value.run (F := Ideal) m ρ)

end Cert.ReferenceIdeal.Layer
-- ==== Proof.Equation.lean ====
/-
# The equation

From memories that hold the same arguments, the layer's output by the kernel's tables is the layer's output by the
reference's: the tables are the same words.
-/
module

public import proofs.«01_k».proof.Proof.Finite
public import proofs.«01_k».proof.Proof.RefResult

@[expose] public section

set_option maxRecDepth 16384

noncomputable section

namespace Cert.Equation

open Idealize.ShloMosaic Idealize.ShloMosaic.TcCoe Idealize.SL.Sem Idealize.ShloMosaic.StableHlo

/-- The position tables' entries agree. -/
theorem waves : ReferenceIdeal.Layer.T = KernelIdeal.Block.T := by
  unfold ReferenceIdeal.Layer.T KernelIdeal.Block.T
  rw [Tables.wave_same]

/-- The reference points agree. -/
theorem points : ReferenceIdeal.Layer.R = KernelIdeal.Block.R := by
  unfold ReferenceIdeal.Layer.R KernelIdeal.Block.R
  rw [Tables.points_same]

/-- The two programs' arguments, each the same in both memories, on one device. -/
def Same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)

/-- The layer's output is the same in both programs' words. -/
theorem layers (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : Same m m' c) (b : Fin 8) : ReferenceIdeal.Layer.layer (launchContents m' c) b = KernelIdeal.Block.layer m c b := by
  obtain ⟨h0, h1, h2, h3, h4, h5, h6, h7, h8, h9⟩ := h
  have e0 : ReferenceIdeal.Layer.qIn (launchContents m' c) b = fun k y x => m ((c.tc : Thread KernelIdeal.nD KernelIdeal.τ).loc KernelIdeal.main_arg0) (ix4 b k y x) :=
    funext fun k => funext fun y => funext fun x => congrFun h0 (ix4 b k y x)
  have e1 : ReferenceIdeal.Layer.vIn (launchContents m' c) b = fun k y x => m ((c.tc : Thread KernelIdeal.nD KernelIdeal.τ).loc KernelIdeal.main_arg1) (ix4 b k y x) :=
    funext fun k => funext fun y => funext fun x => congrFun h1 (ix4 b k y x)
  have e2 : ReferenceIdeal.Layer.wv (launchContents m' c) = fun j k => m ((c.tc : Thread KernelIdeal.nD KernelIdeal.τ).loc KernelIdeal.main_arg2) (ix2 j k) :=
    funext fun j => funext fun k => congrFun h2 (ix2 j k)
  have e3 : ReferenceIdeal.Layer.bv (launchContents m' c) = fun j => m ((c.tc : Thread KernelIdeal.nD KernelIdeal.τ).loc KernelIdeal.main_arg3) (ix1 j) :=
    funext fun j => congrFun h3 (ix1 j)
  have e4 : ReferenceIdeal.Layer.wo (launchContents m' c) = fun j k => m ((c.tc : Thread KernelIdeal.nD KernelIdeal.τ).loc KernelIdeal.main_arg4) (ix2 j k) :=
    funext fun j => funext fun k => congrFun h4 (ix2 j k)
  have e5 : ReferenceIdeal.Layer.bo (launchContents m' c) = fun j => m ((c.tc : Thread KernelIdeal.nD KernelIdeal.τ).loc KernelIdeal.main_arg5) (ix1 j) :=
    funext fun j => congrFun h5 (ix1 j)
  have e6 : ReferenceIdeal.Layer.wa (launchContents m' c) = fun j k => m ((c.tc : Thread KernelIdeal.nD KernelIdeal.τ).loc KernelIdeal.main_arg6) (ix2 j k) :=
    funext fun j => funext fun k => congrFun h6 (ix2 j k)
  have e7 : ReferenceIdeal.Layer.ba (launchContents m' c) = fun j => m ((c.tc : Thread KernelIdeal.nD KernelIdeal.τ).loc KernelIdeal.main_arg7) (ix1 j) :=
    funext fun j => congrFun h7 (ix1 j)
  have e8 : ReferenceIdeal.Layer.wp (launchContents m' c) = fun j k => m ((c.tc : Thread KernelIdeal.nD KernelIdeal.τ).loc KernelIdeal.main_arg8) (ix2 j k) :=
    funext fun j => funext fun k => congrFun h8 (ix2 j k)
  have e9 : ReferenceIdeal.Layer.bp (launchContents m' c) = fun j => m ((c.tc : Thread KernelIdeal.nD KernelIdeal.τ).loc KernelIdeal.main_arg9) (ix1 j) :=
    funext fun j => congrFun h9 (ix1 j)
  unfold ReferenceIdeal.Layer.layer
  rw [waves, points, e0, e1, e2, e3, e4, e5, e6, e7, e8, e9]
  rfl

end Cert.Equation
-- ==== Proof.lean ====
/-
# The proof of the claim

The frames of the kernel, of its idealization and of the reference; that the idealization preserves the kernel; and that the
idealized kernel and the reference leave the same array when the query and the logits' weights and biases are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs to its end, leaves its arguments as they were, and every semaphore counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel and the reference, from memories with the same arguments, leave the same result: the layer's output. -/
theorem value : Cert.algebraic_KernelIdeal_ReferenceIdeal_pre_logits_finite := fun m ρ m' ρ' hpre hsame => by
  refine ⟨fun c => fun i : Cert.KernelIdeal.S8x384x32x32.Idx => Cert.KernelIdeal.Block.layer m c (i 0) ⟨32 * (i 2).val + (i 3).val, by
    have h2 : (i 2).val < 32 := (i 2).isLt
    have h3 : (i 3).val < 32 := (i 3).isLt
    omega⟩ (i 1), ?_, ?_⟩
  · refine (θ_run Cert.KernelIdeal.defs _ _).mono (fun r h c => ⟨?_, h.2 c⟩)
      (θ_run_and (Cert.KernelIdeal.Block.run m ρ (fun c b n k => Cert.KernelIdeal.Block.qk_real m hpre c b n k)
        (fun c b n k => Cert.KernelIdeal.Block.lg_real m hpre c b n k)) (Cert.KernelIdeal.Gen.unchanged m ρ))
    refine funext fun i => ?_
    obtain ⟨b, j, y, x, rfl⟩ : ∃ b j y x, i = ix4 b j y x := ⟨i 0, i 1, i 2, i 3, eq_ix4 i⟩
    exact h.1 c b j y x
  · refine (θ_run Cert.ReferenceIdeal.defs _ _).mono (fun r h c => ⟨?_, (h.2 c).2⟩)
      (θ_run_and (Cert.ReferenceIdeal.Layer.run Cert.Tables.wave_twice m' ρ') (Cert.ReferenceIdeal.Value.run (F := Ideal) m' ρ'))
    refine funext fun i => ?_
    obtain ⟨b, j, y, x, rfl⟩ : ∃ b j y x, i = ix4 b j y x := ⟨i 0, i 1, i 2, i 3, eq_ix4 i⟩
    exact (h.1 c b j y x).trans (congrFun (congrFun (Cert.Equation.layers m m' c (hsame c) b) _) _)

/-- Everything claimed. -/
theorem claim : Cert.Claim := ⟨Cert.Kernel.Gen.facts, Cert.KernelIdeal.Gen.facts, Cert.ReferenceIdeal.Gen.facts,
  Cert.KernelIdeal.Block.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, value⟩

end Cert.Proof

end
